-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_logits_finite [hPre_logits_finite : Cert.Pre_logits_finite.Facts] (m : (ℓ : Loc Cert.AttnIdeal.nD Cert.AttnIdeal.τ Cert.AttnIdeal.sig) → Buf (Elt Ideal) ℓ) : Prop :=
  ∀ c : Dev Cert.AttnIdeal.nD,
    (Cert.Pre_logits_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_logits_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_logits_finite [hPre_logits_finite : Cert.Pre_logits_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_logits_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_logits_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Fcumsum (m : (ℓ : Loc Cert.Fcumsum.nD Cert.Fcumsum.τ Cert.Fcumsum.sig) → Buf (Elt Bits) ℓ) : Prop :=
  True

def Pre_FcumsumIdeal (m : (ℓ : Loc Cert.FcumsumIdeal.nD Cert.FcumsumIdeal.τ Cert.FcumsumIdeal.sig) → Buf (Elt Ideal) ℓ) : Prop :=
  True

def Pre_FcumsumRefIdeal (m : (ℓ : Loc Cert.FcumsumRefIdeal.nD Cert.FcumsumRefIdeal.τ Cert.FcumsumRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_logits_finite [hAttnIdeal : Cert.AttnIdeal.Facts] [hPre_logits_finite : Cert.Pre_logits_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_logits_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_logits_finite [hAttnRefIdeal : Cert.AttnRefIdeal.Facts] [hPre_logits_finite : Cert.Pre_logits_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_logits_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Fcumsum [hFcumsum : Cert.Fcumsum.Facts] : Prop :=
  ∀ (m : (ℓ : Loc Cert.Fcumsum.nD Cert.Fcumsum.τ Cert.Fcumsum.sig) → Buf (Elt Bits) ℓ) (g : Dev Cert.Fcumsum.nD → PrngReg), Pre_Fcumsum m →
    θ_run (Cert.Fcumsum.defs (F := Bits)) (onTc (τ := Cert.Fcumsum.τ) (Cert.Fcumsum.main (F := Bits))) ⟨m, fun _ => 0, g⟩ (fun r => (∀ c : Dev Cert.Fcumsum.nD,
      r.2.mem ((c.tc : Thread Cert.Fcumsum.nD Cert.Fcumsum.τ).loc Cert.Fcumsum.main_arg0) = m ((c.tc : Thread Cert.Fcumsum.nD Cert.Fcumsum.τ).loc Cert.Fcumsum.main_arg0)
      ∧ r.2.mem ((c.tc : Thread Cert.Fcumsum.nD Cert.Fcumsum.τ).loc Cert.Fcumsum.main_arg1) = m ((c.tc : Thread Cert.Fcumsum.nD Cert.Fcumsum.τ).loc Cert.Fcumsum.main_arg1))
      ∧ r.2.sem = fun _ => 0)

def quiescent_FcumsumIdeal [hFcumsumIdeal : Cert.FcumsumIdeal.Facts] : Prop :=
  ∀ (m : (ℓ : Loc Cert.FcumsumIdeal.nD Cert.FcumsumIdeal.τ Cert.FcumsumIdeal.sig) → Buf (Elt Ideal) ℓ) (g : Dev Cert.FcumsumIdeal.nD → PrngReg), Pre_FcumsumIdeal m →
    θ_run (Cert.FcumsumIdeal.defs (F := Ideal)) (onTc (τ := Cert.FcumsumIdeal.τ) (Cert.FcumsumIdeal.main (F := Ideal))) ⟨m, fun _ => 0, g⟩ (fun r => (∀ c : Dev Cert.FcumsumIdeal.nD,
      r.2.mem ((c.tc : Thread Cert.FcumsumIdeal.nD Cert.FcumsumIdeal.τ).loc Cert.FcumsumIdeal.main_arg0) = m ((c.tc : Thread Cert.FcumsumIdeal.nD Cert.FcumsumIdeal.τ).loc Cert.FcumsumIdeal.main_arg0)
      ∧ r.2.mem ((c.tc : Thread Cert.FcumsumIdeal.nD Cert.FcumsumIdeal.τ).loc Cert.FcumsumIdeal.main_arg1) = m ((c.tc : Thread Cert.FcumsumIdeal.nD Cert.FcumsumIdeal.τ).loc Cert.FcumsumIdeal.main_arg1))
      ∧ r.2.sem = fun _ => 0)

def quiescent_FcumsumRefIdeal [hFcumsumRefIdeal : Cert.FcumsumRefIdeal.Facts] : Prop :=
  ∀ (m : (ℓ : Loc Cert.FcumsumRefIdeal.nD Cert.FcumsumRefIdeal.τ Cert.FcumsumRefIdeal.sig) → Buf (Elt Ideal) ℓ) (g : Dev Cert.FcumsumRefIdeal.nD → PrngReg), Pre_FcumsumRefIdeal m →
    θ_run (Cert.FcumsumRefIdeal.defs (F := Ideal)) (onTc (τ := Cert.FcumsumRefIdeal.τ) (Cert.FcumsumRefIdeal.main (F := Ideal))) ⟨m, fun _ => 0, g⟩ (fun r => (∀ c : Dev Cert.FcumsumRefIdeal.nD,
      r.2.mem ((c.tc : Thread Cert.FcumsumRefIdeal.nD Cert.FcumsumRefIdeal.τ).loc Cert.FcumsumRefIdeal.main_arg0) = m ((c.tc : Thread Cert.FcumsumRefIdeal.nD Cert.FcumsumRefIdeal.τ).loc Cert.FcumsumRefIdeal.main_arg0)
      ∧ r.2.mem ((c.tc : Thread Cert.FcumsumRefIdeal.nD Cert.FcumsumRefIdeal.τ).loc Cert.FcumsumRefIdeal.main_arg1) = m ((c.tc : Thread Cert.FcumsumRefIdeal.nD Cert.FcumsumRefIdeal.τ).loc Cert.FcumsumRefIdeal.main_arg1))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def preserves_Attn_AttnIdeal : Prop :=
  True

def algebraic_AttnIdeal_AttnRefIdeal_pre_logits_finite [hAttnIdeal : Cert.AttnIdeal.Facts] [hAttnRefIdeal : Cert.AttnRefIdeal.Facts] [hPre_logits_finite : Cert.Pre_logits_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_logits_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)) (v2 : (c : Dev Cert.AttnIdeal.nD) → Buf (Elt Ideal) ((c.tc : Thread Cert.AttnIdeal.nD Cert.AttnIdeal.τ).loc Cert.AttnIdeal.main_v1_2)) (v3 : (c : Dev Cert.AttnIdeal.nD) → Buf (Elt Ideal) ((c.tc : Thread Cert.AttnIdeal.nD Cert.AttnIdeal.τ).loc Cert.AttnIdeal.main_v1_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_v1_2) = v2 c
          ∧ r.2.mem ((c.tc : Thread Cert.AttnIdeal.nD Cert.AttnIdeal.τ).loc Cert.AttnIdeal.main_v1_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_v41) = v1 c
          ∧ r.2.mem ((c.tc : Thread Cert.AttnRefIdeal.nD Cert.AttnRefIdeal.τ).loc Cert.AttnRefIdeal.main_v42) = v2 c
          ∧ r.2.mem ((c.tc : Thread Cert.AttnRefIdeal.nD Cert.AttnRefIdeal.τ).loc Cert.AttnRefIdeal.main_v43) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def preserves_Inproj_InprojIdeal : Prop :=
  True

def preserves_Outproj_OutprojIdeal : Prop :=
  True

def preserves_Fcumsum_FcumsumIdeal : Prop :=
  True

def preserves_Adaln_AdalnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v134) = v0 c
          ∧ r.2.mem ((c.tc : Thread Cert.InprojRefIdeal.nD Cert.InprojRefIdeal.τ).loc Cert.InprojRefIdeal.main_v136) = v1 c
          ∧ r.2.mem ((c.tc : Thread Cert.InprojRefIdeal.nD Cert.InprojRefIdeal.τ).loc Cert.InprojRefIdeal.main_v137) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v13) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def algebraic_FcumsumIdeal_FcumsumRefIdeal [hFcumsumIdeal : Cert.FcumsumIdeal.Facts] [hFcumsumRefIdeal : Cert.FcumsumRefIdeal.Facts] : Prop :=
  ∀ (m : (ℓ : Loc Cert.FcumsumIdeal.nD Cert.FcumsumIdeal.τ Cert.FcumsumIdeal.sig) → Buf (Elt Ideal) ℓ) (g : Dev Cert.FcumsumIdeal.nD → PrngReg)
    (m' : (ℓ : Loc Cert.FcumsumRefIdeal.nD Cert.FcumsumRefIdeal.τ Cert.FcumsumRefIdeal.sig) → Buf (Elt Ideal) ℓ) (g' : Dev Cert.FcumsumRefIdeal.nD → PrngReg), Pre_FcumsumIdeal m →
    (∀ c : Dev Cert.FcumsumIdeal.nD,
      m' ((c.tc : Thread Cert.FcumsumRefIdeal.nD Cert.FcumsumRefIdeal.τ).loc Cert.FcumsumRefIdeal.main_arg0) = m ((c.tc : Thread Cert.FcumsumIdeal.nD Cert.FcumsumIdeal.τ).loc Cert.FcumsumIdeal.main_arg0)
      ∧ m' ((c.tc : Thread Cert.FcumsumRefIdeal.nD Cert.FcumsumRefIdeal.τ).loc Cert.FcumsumRefIdeal.main_arg1) = m ((c.tc : Thread Cert.FcumsumIdeal.nD Cert.FcumsumIdeal.τ).loc Cert.FcumsumIdeal.main_arg1)) →
    ∃ (v0 : (c : Dev Cert.FcumsumIdeal.nD) → Buf (Elt Ideal) ((c.tc : Thread Cert.FcumsumIdeal.nD Cert.FcumsumIdeal.τ).loc Cert.FcumsumIdeal.main_v0)),
      θ_run (Cert.FcumsumIdeal.defs (F := Ideal)) (onTc (τ := Cert.FcumsumIdeal.τ) (Cert.FcumsumIdeal.main (F := Ideal))) ⟨m, fun _ => 0, g⟩ (fun r => ∀ c : Dev Cert.FcumsumIdeal.nD,
          r.2.mem ((c.tc : Thread Cert.FcumsumIdeal.nD Cert.FcumsumIdeal.τ).loc Cert.FcumsumIdeal.main_v0) = v0 c
          ∧ r.2.mem ((c.tc : Thread Cert.FcumsumIdeal.nD Cert.FcumsumIdeal.τ).loc Cert.FcumsumIdeal.main_arg0) = m ((c.tc : Thread Cert.FcumsumIdeal.nD Cert.FcumsumIdeal.τ).loc Cert.FcumsumIdeal.main_arg0)
          ∧ r.2.mem ((c.tc : Thread Cert.FcumsumIdeal.nD Cert.FcumsumIdeal.τ).loc Cert.FcumsumIdeal.main_arg1) = m ((c.tc : Thread Cert.FcumsumIdeal.nD Cert.FcumsumIdeal.τ).loc Cert.FcumsumIdeal.main_arg1))
      ∧ θ_run (Cert.FcumsumRefIdeal.defs (F := Ideal)) (onTc (τ := Cert.FcumsumRefIdeal.τ) (Cert.FcumsumRefIdeal.main (F := Ideal))) ⟨m', fun _ => 0, g'⟩ (fun r => ∀ c : Dev Cert.FcumsumRefIdeal.nD,
          r.2.mem ((c.tc : Thread Cert.FcumsumRefIdeal.nD Cert.FcumsumRefIdeal.τ).loc Cert.FcumsumRefIdeal.main_v8) = v0 c
          ∧ r.2.mem ((c.tc : Thread Cert.FcumsumRefIdeal.nD Cert.FcumsumRefIdeal.τ).loc Cert.FcumsumRefIdeal.main_arg0) = m' ((c.tc : Thread Cert.FcumsumRefIdeal.nD Cert.FcumsumRefIdeal.τ).loc Cert.FcumsumRefIdeal.main_arg0)
          ∧ r.2.mem ((c.tc : Thread Cert.FcumsumRefIdeal.nD Cert.FcumsumRefIdeal.τ).loc Cert.FcumsumRefIdeal.main_arg1) = m' ((c.tc : Thread Cert.FcumsumRefIdeal.nD Cert.FcumsumRefIdeal.τ).loc Cert.FcumsumRefIdeal.main_arg1))

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v5_0)) (v1 : (c : Dev Cert.AdalnIdeal.nD) → Buf (Elt Ideal) ((c.tc : Thread Cert.AdalnIdeal.nD Cert.AdalnIdeal.τ).loc Cert.AdalnIdeal.main_v5_1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v5_0) = v0 c
          ∧ r.2.mem ((c.tc : Thread Cert.AdalnIdeal.nD Cert.AdalnIdeal.τ).loc Cert.AdalnIdeal.main_v5_1) = v1 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v6) = v0 c
          ∧ r.2.mem ((c.tc : Thread Cert.AdalnRefIdeal.nD Cert.AdalnRefIdeal.τ).loc Cert.AdalnRefIdeal.main_v15) = v1 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hFcumsum : Cert.Fcumsum.Facts) (hFcumsumIdeal : Cert.FcumsumIdeal.Facts) (hFcumsumRefIdeal : Cert.FcumsumRefIdeal.Facts) (hAdaln : Cert.Adaln.Facts) (hAdalnIdeal : Cert.AdalnIdeal.Facts) (hAdalnRefIdeal : Cert.AdalnRefIdeal.Facts) (hPre_logits_finite : Cert.Pre_logits_finite.Facts) (hPre_ffn_finite : Cert.Pre_ffn_finite.Facts),
    quiescent_Attn (hAttn := hAttn)
    ∧ quiescent_AttnIdeal (hAttnIdeal := hAttnIdeal)
    ∧ quiescent_AttnIdeal_pre_logits_finite (hAttnIdeal := hAttnIdeal) (hPre_logits_finite := hPre_logits_finite)
    ∧ quiescent_AttnRefIdeal (hAttnRefIdeal := hAttnRefIdeal)
    ∧ quiescent_AttnRefIdeal_pre_logits_finite (hAttnRefIdeal := hAttnRefIdeal) (hPre_logits_finite := hPre_logits_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Fcumsum (hFcumsum := hFcumsum)
    ∧ quiescent_FcumsumIdeal (hFcumsumIdeal := hFcumsumIdeal)
    ∧ quiescent_FcumsumRefIdeal (hFcumsumRefIdeal := hFcumsumRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ preserves_Attn_AttnIdeal
    ∧ algebraic_AttnIdeal_AttnRefIdeal_pre_logits_finite (hAttnIdeal := hAttnIdeal) (hAttnRefIdeal := hAttnRefIdeal) (hPre_logits_finite := hPre_logits_finite)
    ∧ preserves_Ffn_FfnIdeal
    ∧ preserves_Inproj_InprojIdeal
    ∧ preserves_Outproj_OutprojIdeal
    ∧ preserves_Fcumsum_FcumsumIdeal
    ∧ preserves_Adaln_AdalnIdeal
    ∧ algebraic_FfnIdeal_FfnRefIdeal_pre_ffn_finite (hFfnIdeal := hFfnIdeal) (hFfnRefIdeal := hFfnRefIdeal) (hPre_ffn_finite := hPre_ffn_finite)
    ∧ algebraic_InprojIdeal_InprojRefIdeal (hInprojIdeal := hInprojIdeal) (hInprojRefIdeal := hInprojRefIdeal)
    ∧ algebraic_OutprojIdeal_OutprojRefIdeal (hOutprojIdeal := hOutprojIdeal) (hOutprojRefIdeal := hOutprojRefIdeal)
    ∧ algebraic_FcumsumIdeal_FcumsumRefIdeal (hFcumsumIdeal := hFcumsumIdeal) (hFcumsumRefIdeal := hFcumsumRefIdeal)
    ∧ algebraic_AdalnIdeal_AdalnRefIdeal (hAdalnIdeal := hAdalnIdeal) (hAdalnRefIdeal := hAdalnRefIdeal)
-- ==== Pre_ffn_finite.lean ====
abbrev S16384x2048 : Shape := ⟨2, ![16384, 2048]⟩
abbrev S8x6x2048 : Shape := ⟨3, ![8, 6, 2048]⟩
abbrev S1x2048 : Shape := ⟨2, ![1, 2048]⟩
abbrev S2048x8192 : Shape := ⟨2, ![2048, 8192]⟩
abbrev S8192x2048 : Shape := ⟨2, ![8192, 2048]⟩
abbrev S8x3x2048 : Shape := ⟨3, ![8, 3, 2048]⟩
abbrev S_ : Shape := ⟨0, ![]⟩

class Facts : Prop where
  slices_S8x6x2048_S8x3x2048_0_3_0 : S8x6x2048.Slices ![0, 3, 0] S8x3x2048
  bcast_S_S8x3x2048 : S_.BroadcastsInDim S8x3x2048 (![] : Fin 0 → Fin S8x3x2048.rank)
  bcast_S_S1x2048 : S_.BroadcastsInDim S1x2048 (![] : Fin 0 → Fin S1x2048.rank)
  bitsLt_bf16_f32 : FTy.bits .bf16 < FTy.bits .f32
  bcast_S_S2048x8192 : S_.BroadcastsInDim S2048x8192 (![] : Fin 0 → Fin S2048x8192.rank)
  bcast_S_S8192x2048 : S_.BroadcastsInDim S8192x2048 (![] : Fin 0 → Fin S8192x2048.rank)

variable [Facts]

def fn {F : FTy → Type} [FloatOps F] (main_arg0 : FVec F S16384x2048 .f32) (main_arg1 : FVec F S8x6x2048 .f32) (main_arg2 : FVec F S1x2048 .f32) (main_arg3 : FVec F S2048x8192 .bf16) (main_arg4 : FVec F S8192x2048 .bf16) : IVec S8x3x2048 1 × IVec S1x2048 1 × IVec S2048x8192 1 × IVec S8192x2048 1 :=
  let main_v0 : FVec F S8x3x2048 .f32 := (extractStridedSlice S8x3x2048 ![0, 3, 0] · slices_S8x6x2048_S8x3x2048_0_3_0) main_arg1
  let main_v1 : FVec F S8x3x2048 .f32 := Host.absf main_v0
  let main_cst : FVec F S_ .f32 := constant S_ .f32 0x7F800000#32
  let main_v2 : FVec F S8x3x2048 .f32 := broadcastInDim S8x3x2048 ![] bcast_S_S8x3x2048 main_cst
  let main_v3 : IVec S8x3x2048 1 := cmpf .olt main_v1 main_v2
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S2048x8192 .f32 := (extf .f32 · bitsLt_bf16_f32) main_arg3
  let main_v8 : FVec F S2048x8192 .f32 := Host.absf main_v7
  let main_cst_1 : FVec F S_ .f32 := constant S_ .f32 0x7F800000#32
  let main_v9 : FVec F S2048x8192 .f32 := broadcastInDim S2048x8192 ![] bcast_S_S2048x8192 main_cst_1
  let main_v10 : IVec S2048x8192 1 := cmpf .olt main_v8 main_v9
  let main_v11 : FVec F S8192x2048 .f32 := (extf .f32 · bitsLt_bf16_f32) main_arg4
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  (main_v3, main_v6, main_v10, main_v14)
-- ==== Pre_logits_finite.lean ====
abbrev S8x2048x3072 : Shape := ⟨3, ![8, 2048, 3072]⟩
abbrev S8x8x2048 : Shape := ⟨3, ![8, 8, 2048]⟩
abbrev S2048x8192 : Shape := ⟨2, ![2048, 8192]⟩
abbrev S8192x2048 : Shape := ⟨2, ![8192, 2048]⟩
abbrev S2048x2048 : Shape := ⟨2, ![2048, 2048]⟩
abbrev S8x2048x2048 : Shape := ⟨3, ![8, 2048, 2048]⟩
abbrev S_ : Shape := ⟨0, ![]⟩

class Facts : Prop where
  slices_S8x2048x3072_S8x2048x2048_0_0_0 : S8x2048x3072.Slices ![0, 0, 0] S8x2048x2048
  bitsLt_bf16_f32 : FTy.bits .bf16 < FTy.bits .f32
  bcast_S_S8x2048x2048 : S_.BroadcastsInDim S8x2048x2048 (![] : Fin 0 → Fin S8x2048x2048.rank)
  bcast_S_S8x8x2048 : S_.BroadcastsInDim S8x8x2048 (![] : Fin 0 → Fin S8x8x2048.rank)

variable [Facts]

def fn {F : FTy → Type} [FloatOps F] (main_arg0 : FVec F S8x2048x3072 .bf16) (main_arg1 : FVec F S8x8x2048 .f32) (main_arg2 : FVec F S2048x8192 .f32) (main_arg3 : FVec F S8192x2048 .f32) (main_arg4 : FVec F S2048x2048 .f32) : IVec S8x2048x2048 1 × IVec S8x8x2048 1 :=
  let main_v0 : FVec F S8x2048x2048 .bf16 := (extractStridedSlice S8x2048x2048 ![0, 0, 0] · slices_S8x2048x3072_S8x2048x2048_0_0_0) main_arg0
  let main_v1 : FVec F S8x2048x2048 .f32 := (extf .f32 · bitsLt_bf16_f32) main_v0
  let main_v2 : FVec F S8x2048x2048 .f32 := Host.absf main_v1
  let main_cst : FVec F S_ .f32 := constant S_ .f32 0x7F800000#32
  let main_v3 : FVec F S8x2048x2048 .f32 := broadcastInDim S8x2048x2048 ![] bcast_S_S8x2048x2048 main_cst
  let main_v4 : IVec S8x2048x2048 1 := cmpf .olt main_v2 main_v3
  let main_v5 : FVec F S8x8x2048 .f32 := Host.absf main_arg1
  let main_cst_0 : FVec F S_ .f32 := constant S_ .f32 0x7F800000#32
  let main_v6 : FVec F S8x8x2048 .f32 := broadcastInDim S8x8x2048 ![] bcast_S_S8x8x2048 main_cst_0
  let main_v7 : IVec S8x8x2048 1 := cmpf .olt main_v5 main_v6
  (main_v4, main_v7)
-- ==== Attn.lean ====
abbrev S8x2048x3072 : Shape := ⟨3, ![8, 2048, 3072]⟩
abbrev S8x8x2048 : Shape := ⟨3, ![8, 8, 2048]⟩
abbrev S2048x8192 : Shape := ⟨2, ![2048, 8192]⟩
abbrev S8192x2048 : Shape := ⟨2, ![8192, 2048]⟩
abbrev S2048x2048 : Shape := ⟨2, ![2048, 2048]⟩
abbrev S8x4x2x2048 : Shape := ⟨4, ![8, 4, 2, 2048]⟩
abbrev S8x2048x1024 : Shape := ⟨3, ![8, 2048, 1024]⟩
abbrev S1x2048x256 : Shape := ⟨3, ![1, 2048, 256]⟩
abbrev S1x1x2x2048 : Shape := ⟨4, ![1, 1, 2, 2048]⟩
abbrev S64x8192 : Shape := ⟨2, ![64, 8192]⟩
abbrev S256x2048 : Shape := ⟨2, ![256, 2048]⟩
abbrev S64x2048 : Shape := ⟨2, ![64, 2048]⟩
abbrev S2x2048x256 : Shape := ⟨3, ![2, 2048, 256]⟩
abbrev S1x2048x128 : Shape := ⟨3, ![1, 2048, 128]⟩
abbrev S2048x128 : Shape := ⟨2, ![2048, 128]⟩
abbrev S512x512 : Shape := ⟨2, ![512, 512]⟩
abbrev S1x256x128 : Shape := ⟨3, ![1, 256, 128]⟩
abbrev S256x128 : Shape := ⟨2, ![256, 128]⟩
abbrev S1x1792x128 : Shape := ⟨3, ![1, 1792, 128]⟩
abbrev S1792x128 : Shape := ⟨2, ![1792, 128]⟩
abbrev S256x1792 : Shape := ⟨2, ![256, 1792]⟩
abbrev S1x1x1x1792 : Shape := ⟨4, ![1, 1, 1, 1792]⟩
abbrev S1x1792 : Shape := ⟨2, ![1, 1792]⟩
abbrev S1x1x1x2048 : Shape := ⟨4, ![1, 1, 1, 2048]⟩
abbrev S1x2048 : Shape := ⟨2, ![1, 2048]⟩
abbrev S1x1280x128 : Shape := ⟨3, ![1, 1280, 128]⟩
abbrev S1280x128 : Shape := ⟨2, ![1280, 128]⟩
abbrev S256x1280 : Shape := ⟨2, ![256, 1280]⟩
abbrev S1x1x1x1280 : Shape := ⟨4, ![1, 1, 1, 1280]⟩
abbrev S1x1280 : Shape := ⟨2, ![1, 1280]⟩
abbrev S1x1536x128 : Shape := ⟨3, ![1, 1536, 128]⟩
abbrev S1536x128 : Shape := ⟨2, ![1536, 128]⟩
abbrev S256x1536 : Shape := ⟨2, ![256, 1536]⟩
abbrev S1x1x1x1536 : Shape := ⟨4, ![1, 1, 1, 1536]⟩
abbrev S1x1536 : Shape := ⟨2, ![1, 1536]⟩
abbrev S1x768x128 : Shape := ⟨3, ![1, 768, 128]⟩
abbrev S768x128 : Shape := ⟨2, ![768, 128]⟩
abbrev S256x768 : Shape := ⟨2, ![256, 768]⟩
abbrev S1x1x1x768 : Shape := ⟨4, ![1, 1, 1, 768]⟩
abbrev S1x768 : Shape := ⟨2, ![1, 768]⟩
abbrev S1x1024x128 : Shape := ⟨3, ![1, 1024, 128]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S1x1x1x512 : Shape := ⟨4, ![1, 1, 1, 512]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S256x256 : Shape := ⟨2, ![256, 256]⟩
abbrev S256x1 : Shape := ⟨2, ![256, 1]⟩
abbrev S256 : Shape := ⟨1, ![256]⟩
abbrev S1x1792x256 : Shape := ⟨3, ![1, 1792, 256]⟩
abbrev S1792x256 : Shape := ⟨2, ![1792, 256]⟩
abbrev S256x512 : Shape := ⟨2, ![256, 512]⟩
abbrev S2048x256 : Shape := ⟨2, ![2048, 256]⟩
abbrev S1x1x1x256 : Shape := ⟨4, ![1, 1, 1, 256]⟩
abbrev S1x256 : Shape := ⟨2, ![1, 256]⟩
abbrev S1x512x128 : Shape := ⟨3, ![1, 512, 128]⟩
abbrev S1x1280x256 : Shape := ⟨3, ![1, 1280, 256]⟩
abbrev S1280x256 : Shape := ⟨2, ![1280, 256]⟩
abbrev S1x1536x256 : Shape := ⟨3, ![1, 1536, 256]⟩
abbrev S1536x256 : Shape := ⟨2, ![1536, 256]⟩
abbrev S1x768x256 : Shape := ⟨3, ![1, 768, 256]⟩
abbrev S768x256 : Shape := ⟨2, ![768, 256]⟩
abbrev S1x1024x256 : Shape := ⟨3, ![1, 1024, 256]⟩
abbrev S1024x256 : Shape := ⟨2, ![1024, 256]⟩
abbrev S1x256x256 : Shape := ⟨3, ![1, 256, 256]⟩
abbrev S1x512x256 : Shape := ⟨3, ![1, 512, 256]⟩
abbrev S512x256 : Shape := ⟨2, ![512, 256]⟩

abbrev nBuf : Space → Nat
  | .hbm => 10
  | .vmem => 23
  | .smem => 0
  | _ => 0

abbrev bufTy : (tb : Table) → Fin (tcTables nBuf tb) → BufTy
  | .hbm, ⟨0, _⟩ => ⟨S8x2048x3072, .bf16⟩
  | .hbm, ⟨1, _⟩ => ⟨S8x8x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S8x4x2x2048, .f32⟩
  | .hbm, ⟨6, _⟩ => ⟨S8x2048x1024, .bf16⟩
  | .hbm, ⟨7, _⟩ => ⟨S2048x8192, .bf16⟩
  | .hbm, ⟨8, _⟩ => ⟨S8192x2048, .bf16⟩
  | .hbm, ⟨9, _⟩ => ⟨S2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1x2x2048, .f32⟩
  | .local _ .vmem, ⟨7, _⟩ => ⟨S1x1x2x2048, .f32⟩
  | .local _ .vmem, ⟨8, _⟩ => ⟨S64x8192, .f32⟩
  | .local _ .vmem, ⟨9, _⟩ => ⟨S64x8192, .f32⟩
  | .local _ .vmem, ⟨10, _⟩ => ⟨S256x2048, .f32⟩
  | .local _ .vmem, ⟨11, _⟩ => ⟨S256x2048, .f32⟩
  | .local _ .vmem, ⟨12, _⟩ => ⟨S64x2048, .f32⟩
  | .local _ .vmem, ⟨13, _⟩ => ⟨S64x2048, .f32⟩
  | .local _ .vmem, ⟨14, _⟩ => ⟨S1x2048x256, .bf16⟩
  | .local _ .vmem, ⟨15, _⟩ => ⟨S1x2048x256, .bf16⟩
  | .local _ .vmem, ⟨16, _⟩ => ⟨S64x8192, .bf16⟩
  | .local _ .vmem, ⟨17, _⟩ => ⟨S64x8192, .bf16⟩
  | .local _ .vmem, ⟨18, _⟩ => ⟨S256x2048, .bf16⟩
  | .local _ .vmem, ⟨19, _⟩ => ⟨S256x2048, .bf16⟩
  | .local _ .vmem, ⟨20, _⟩ => ⟨S64x2048, .bf16⟩
  | .local _ .vmem, ⟨21, _⟩ => ⟨S64x2048, .bf16⟩
  | .local _ .vmem, ⟨22, _⟩ => ⟨S2x2048x256, .bf16⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnRefIdeal.lean ====
abbrev S8x2048x3072 : Shape := ⟨3, ![8, 2048, 3072]⟩
abbrev S8x8x2048 : Shape := ⟨3, ![8, 8, 2048]⟩
abbrev S2048x8192 : Shape := ⟨2, ![2048, 8192]⟩
abbrev S8192x2048 : Shape := ⟨2, ![8192, 2048]⟩
abbrev S2048x2048 : Shape := ⟨2, ![2048, 2048]⟩
abbrev S8x2048x1024 : Shape := ⟨3, ![8, 2048, 1024]⟩
abbrev S8x2048x8x128 : Shape := ⟨4, ![8, 2048, 8, 128]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x1x2048x2048 : Shape := ⟨4, ![1, 1, 2048, 2048]⟩
abbrev S8x8x128x2048 : Shape := ⟨4, ![8, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x3072, .bf16⟩
  | .hbm, ⟨1, _⟩ => ⟨S8x8x2048, .f32⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S8x2048x3072, .f32⟩
  | .hbm, ⟨6, _⟩ => ⟨S8x2048x1024, .f32⟩
  | .hbm, ⟨7, _⟩ => ⟨S8x2048x8x128, .f32⟩
  | .hbm, ⟨8, _⟩ => ⟨S8x2048x1024, .f32⟩
  | .hbm, ⟨9, _⟩ => ⟨S8x2048x8x128, .f32⟩
  | .hbm, ⟨10, _⟩ => ⟨S8x2048x1024, .f32⟩
  | .hbm, ⟨11, _⟩ => ⟨S8x2048x8x128, .f32⟩
  | .hbm, ⟨12, _⟩ => ⟨S8x8x2048x2048, .f32⟩
  | .hbm, ⟨13, _⟩ => ⟨S8x8x2048x1, .f32⟩
  | .hbm, ⟨14, _⟩ => ⟨S8x8x2048x2048, .f32⟩
  | .hbm, ⟨15, _⟩ => ⟨S8x8x2048x2048, .f32⟩
  | .hbm, ⟨16, _⟩ => ⟨S8x8x1x2048, .f32⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x8x2048x2048, .f32⟩
  | .hbm, ⟨23, _⟩ => ⟨S8x8x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S1x1x2048x2048, .i1⟩
  | .hbm, ⟨31, _⟩ => ⟨S_, .f32⟩
  | .hbm, ⟨32, _⟩ => ⟨S_, .f32⟩
  | .hbm, ⟨33, _⟩ => ⟨S8x8x2048x2048, .i1⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S_, .f32⟩
  | .hbm, ⟨39, _⟩ => ⟨S8x8x2048, .f32⟩
  | .hbm, ⟨40, _⟩ => ⟨S8x8x2048, .f32⟩
  | .hbm, ⟨41, _⟩ => ⟨S8x8x2048x1, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S8x8x2048, .f32⟩
  | .hbm, ⟨47, _⟩ => ⟨S8x8x2048x1, .f32⟩
  | .hbm, ⟨48, _⟩ => ⟨S8x8x2048x2048, .f32⟩
  | .hbm, ⟨49, _⟩ => ⟨S8x8x2048x2048, .f32⟩
  | .hbm, ⟨50, _⟩ => ⟨S8x8x128x2048, .f32⟩
  | .hbm, ⟨51, _⟩ => ⟨S8x2048x8x128, .f32⟩
  | .hbm, ⟨52, _⟩ => ⟨S8x2048x1024, .f32⟩
  | .hbm, ⟨53, _⟩ => ⟨S8x2048x1024, .bf16⟩
  | .hbm, ⟨54, _⟩ => ⟨S2048x8192, .bf16⟩
  | .hbm, ⟨55, _⟩ => ⟨S8192x2048, .bf16⟩
  | .hbm, ⟨56, _⟩ => ⟨S2048x2048, .bf16⟩
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Ffn.lean ====
abbrev S16384x2048 : Shape := ⟨2, ![16384, 2048]⟩
abbrev S8x6x2048 : Shape := ⟨3, ![8, 6, 2048]⟩
abbrev S1x2048 : Shape := ⟨2, ![1, 2048]⟩
abbrev S2048x8192 : Shape := ⟨2, ![2048, 8192]⟩
abbrev S8192x2048 : Shape := ⟨2, ![8192, 2048]⟩
abbrev S512x2048 : Shape := ⟨2, ![512, 2048]⟩
abbrev S1x6x2048 : Shape := ⟨3, ![1, 6, 2048]⟩
abbrev S2048x1024 : Shape := ⟨2, ![2048, 1024]⟩
abbrev S1024x2048 : Shape := ⟨2, ![1024, 2048]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S1x2048, .f32⟩
  | .hbm, ⟨3, _⟩ => ⟨S2048x8192, .bf16⟩
  | .hbm, ⟨4, _⟩ => ⟨S8192x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S8x6x2048 : Shape := ⟨3, ![8, 6, 2048]⟩
abbrev S1x2048 : Shape := ⟨2, ![1, 2048]⟩
abbrev S2048x8192 : Shape := ⟨2, ![2048, 8192]⟩
abbrev S8192x2048 : Shape := ⟨2, ![8192, 2048]⟩
abbrev S8x2048x2048 : Shape := ⟨3, ![8, 2048, 2048]⟩
abbrev S8x1x2048 : Shape := ⟨3, ![8, 1, 2048]⟩
abbrev S8x2048 : Shape := ⟨2, ![8, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x2048x8192 : Shape := ⟨3, ![8, 2048, 8192]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S1x2048, .f32⟩
  | .hbm, ⟨3, _⟩ => ⟨S2048x8192, .bf16⟩
  | .hbm, ⟨4, _⟩ => ⟨S8192x2048, .bf16⟩
  | .hbm, ⟨5, _⟩ => ⟨S8x2048x2048, .f32⟩
  | .hbm, ⟨6, _⟩ => ⟨S8x1x2048, .f32⟩
  | .hbm, ⟨7, _⟩ => ⟨S8x2048, .f32⟩
  | .hbm, ⟨8, _⟩ => ⟨S8x1x2048, .f32⟩
  | .hbm, ⟨9, _⟩ => ⟨S8x2048, .f32⟩
  | .hbm, ⟨10, _⟩ => ⟨S8x1x2048, .f32⟩
  | .hbm, ⟨11, _⟩ => ⟨S8x2048, .f32⟩
  | .hbm, ⟨12, _⟩ => ⟨S2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S2048x8192, .f32⟩
  | .hbm, ⟨39, _⟩ => ⟨S8x2048x8192, .f32⟩
  | .hbm, ⟨40, _⟩ => ⟨S_, .f32⟩
  | .hbm, ⟨41, _⟩ => ⟨S8x2048x8192, .f32⟩
  | .hbm, ⟨42, _⟩ => ⟨S8x2048x8192, .f32⟩
  | .hbm, ⟨43, _⟩ => ⟨S8x2048x8192, .f32⟩
  | .hbm, ⟨44, _⟩ => ⟨S8192x2048, .f32⟩
  | .hbm, ⟨45, _⟩ => ⟨S8x2048x2048, .f32⟩
  | .hbm, ⟨46, _⟩ => ⟨S8x1x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_cst : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Inproj.lean ====
abbrev S16384x2048 : Shape := ⟨2, ![16384, 2048]⟩
abbrev S8x6x2048 : Shape := ⟨3, ![8, 6, 2048]⟩
abbrev S1x2048 : Shape := ⟨2, ![1, 2048]⟩
abbrev S5248x2048 : Shape := ⟨2, ![5248, 2048]⟩
abbrev S1x128 : Shape := ⟨2, ![1, 128]⟩
abbrev S1x1024 : Shape := ⟨2, ![1, 1024]⟩
abbrev S8x128x128 : Shape := ⟨3, ![8, 128, 128]⟩
abbrev S8x128 : Shape := ⟨2, ![8, 128]⟩
abbrev S16384x3072 : Shape := ⟨2, ![16384, 3072]⟩
abbrev S16384x1024 : Shape := ⟨2, ![16384, 1024]⟩
abbrev S16384x128 : Shape := ⟨2, ![16384, 128]⟩
abbrev S512x2048 : Shape := ⟨2, ![512, 2048]⟩
abbrev S1x6x2048 : Shape := ⟨3, ![1, 6, 2048]⟩
abbrev S512x3072 : Shape := ⟨2, ![512, 3072]⟩
abbrev S512x1024 : Shape := ⟨2, ![512, 1024]⟩
abbrev S512x128 : Shape := ⟨2, ![512, 128]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S512x5248 : Shape := ⟨2, ![512, 5248]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S1x2048, .f32⟩
  | .hbm, ⟨3, _⟩ => ⟨S5248x2048, .bf16⟩
  | .hbm, ⟨4, _⟩ => ⟨S1x128, .f32⟩
  | .hbm, ⟨5, _⟩ => ⟨S1x128, .f32⟩
  | .hbm, ⟨6, _⟩ => ⟨S1x1024, .f32⟩
  | .hbm, ⟨7, _⟩ => ⟨S8x128x128, .f32⟩
  | .hbm, ⟨8, _⟩ => ⟨S8x128, .f32⟩
  | .hbm, ⟨9, _⟩ => ⟨S16384x3072, .bf16⟩
  | .hbm, ⟨10, _⟩ => ⟨S16384x1024, .bf16⟩
  | .hbm, ⟨11, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S5248x2048, .bf16⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S8x128x128, .f32⟩
  | .local _ .vmem, ⟨10, _⟩ => ⟨S8x128, .f32⟩
  | .local _ .vmem, ⟨11, _⟩ => ⟨S512x3072, .bf16⟩
  | .local _ .vmem, ⟨12, _⟩ => ⟨S512x3072, .bf16⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | .local _ .vmem, ⟨17, _⟩ => ⟨S512x2048, .bf16⟩
  | .local _ .vmem, ⟨18, _⟩ => ⟨S512x1024, .bf16⟩
  | .local _ .vmem, ⟨19, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5248x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S16384x2048 : Shape := ⟨2, ![16384, 2048]⟩
abbrev S8x6x2048 : Shape := ⟨3, ![8, 6, 2048]⟩
abbrev S1x2048 : Shape := ⟨2, ![1, 2048]⟩
abbrev S5248x2048 : Shape := ⟨2, ![5248, 2048]⟩
abbrev S1x128 : Shape := ⟨2, ![1, 128]⟩
abbrev S1x1024 : Shape := ⟨2, ![1, 1024]⟩
abbrev S8x128x128 : Shape := ⟨3, ![8, 128, 128]⟩
abbrev S8x128 : Shape := ⟨2, ![8, 128]⟩
abbrev S8x2048x2048 : Shape := ⟨3, ![8, 2048, 2048]⟩
abbrev S8x1x2048 : Shape := ⟨3, ![8, 1, 2048]⟩
abbrev S8x2048 : Shape := ⟨2, ![8, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x2048x5248 : Shape := ⟨3, ![8, 2048, 5248]⟩
abbrev S8x2048x1024 : Shape := ⟨3, ![8, 2048, 1024]⟩
abbrev S8x2048x128 : Shape := ⟨3, ![8, 2048, 128]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S1x1x8x128 : Shape := ⟨4, ![1, 1, 8, 128]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S16384x1024 : Shape := ⟨2, ![16384, 1024]⟩
abbrev S16384x3072 : Shape := ⟨2, ![16384, 3072]⟩
abbrev S16384x128 : Shape := ⟨2, ![16384, 128]⟩

abbrev nBuf : Space → Nat
  | .hbm => 180
  | .vmem => 0
  | .smem => 0
  | _ => 0

abbrev hbmTy0_0 (i : Nat) : BufTy := match i % 128 with
  | 0 => ⟨S16384x2048, .f32⟩
  | 1 => ⟨S8x6x2048, .f32⟩
  | 2 => ⟨S1x2048, .f32⟩
  | 3 => ⟨S5248x2048, .bf16⟩
  | 4 => ⟨S1x128, .f32⟩
  | 5 => ⟨S1x128, .f32⟩
  | 6 => ⟨S1x1024, .f32⟩
  | 7 => ⟨S8x128x128, .f32⟩
  | 8 => ⟨S8x128, .f32⟩
  | 9 => ⟨S8x2048x2048, .f32⟩
  | 10 => ⟨S8x1x2048, .f32⟩
  | 11 => ⟨S8x2048, .f32⟩
  | 12 => ⟨S8x1x2048, .f32⟩
  | 13 => ⟨S8x2048, .f32⟩
  | 14 => ⟨S2048, .f32⟩
  | 15 => ⟨S8x2048x2048, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x2048, .f32⟩
  | 27 => ⟨S8x2048x2048, .f32⟩
  | 28 => ⟨S1x1x2048, .f32⟩
  | 29 => ⟨S8x2048x2048, .f32⟩
  | 30 => ⟨S8x2048x2048, .f32⟩
  | 31 => ⟨S8x1x2048, .f32⟩
  | 32 => ⟨S_, .f32⟩
  | 33 => ⟨S8x1x2048, .f32⟩
  | 34 => ⟨S8x1x2048, .f32⟩
  | 35 => ⟨S8x2048x2048, .f32⟩
  | 36 => ⟨S8x2048x2048, .f32⟩
  | 37 => ⟨S8x1x2048, .f32⟩
  | 38 => ⟨S8x2048x2048, .f32⟩
  | 39 => ⟨S8x2048x2048, .f32⟩
  | 40 => ⟨S5248x2048, .f32⟩
  | 41 => ⟨S8x2048x5248, .f32⟩
  | 42 => ⟨S8x2048x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x128, .f32⟩
  | 48 => ⟨S8x2048x8x128, .f32⟩
  | 49 => ⟨S128, .f32⟩
  | 50 => ⟨S8x2048x8x128, .f32⟩
  | 51 => ⟨S_, .f32⟩
  | 52 => ⟨S8x2048x8, .f32⟩
  | 53 => ⟨S8x2048x8x1, .f32⟩
  | 54 => ⟨S_, .f32⟩
  | 55 => ⟨S8x2048x8x1, .f32⟩
  | 56 => ⟨S8x2048x8x1, .f32⟩
  | 57 => ⟨S_, .f32⟩
  | 58 => ⟨S8x2048x8x1, .f32⟩
  | 59 => ⟨S8x2048x8x1, .f32⟩
  | 60 => ⟨S8x2048x8x1, .f32⟩
  | 61 => ⟨S8x2048x8x128, .f32⟩
  | 62 => ⟨S8x2048x8x128, .f32⟩
  | 63 => ⟨S1x1x1x128, .f32⟩
  | 64 => ⟨S8x2048x8x128, .f32⟩
  | 65 => ⟨S8x2048x8x128, .f32⟩
  | 66 => ⟨S_, .f32⟩
  | 67 => ⟨S8x2048x8x128, .f32⟩
  | 68 => ⟨S8x2048x8x128, .f32⟩
  | 69 => ⟨S8x2048x8x128, .f32⟩
  | 70 => ⟨S128, .f32⟩
  | 71 => ⟨S8x2048x8x128, .f32⟩
  | 72 => ⟨S_, .f32⟩
  | 73 => ⟨S8x2048x8, .f32⟩
  | 74 => ⟨S8x2048x8x1, .f32⟩
  | 75 => ⟨S_, .f32⟩
  | 76 => ⟨S8x2048x8x1, .f32⟩
  | 77 => ⟨S8x2048x8x1, .f32⟩
  | 78 => ⟨S_, .f32⟩
  | 79 => ⟨S8x2048x8x1, .f32⟩
  | 80 => ⟨S8x2048x8x1, .f32⟩
  | 81 => ⟨S8x2048x8x1, .f32⟩
  | 82 => ⟨S8x2048x8x128, .f32⟩
  | 83 => ⟨S8x2048x8x128, .f32⟩
  | 84 => ⟨S1x1x1x128, .f32⟩
  | 85 => ⟨S8x2048x8x128, .f32⟩
  | 86 => ⟨S8x2048x8x128, .f32⟩
  | 87 => ⟨S8x2048x1024, .f32⟩
  | 88 => ⟨S8x2048x1024, .f32⟩
  | 89 => ⟨S_, .f32⟩
  | 90 => ⟨S8x2048x1024, .f32⟩
  | 91 => ⟨S8x2048x1024, .f32⟩
  | 92 => ⟨S8x2048x1024, .f32⟩
  | 93 => ⟨S_, .f32⟩
  | 94 => ⟨S8x2048x1024, .f32⟩
  | 95 => ⟨S8x2048x1024, .f32⟩
  | 96 => ⟨S8x2048x1024, .f32⟩
  | 97 => ⟨S_, .f32⟩
  | 98 => ⟨S8x2048x1024, .f32⟩
  | 99 => ⟨S8x2048x1024, .f32⟩
  | 100 => ⟨S_, .f32⟩
  | 101 => ⟨S8x2048x1024, .f32⟩
  | 102 => ⟨S8x2048x1024, .f32⟩
  | 103 => ⟨S8x2048x1024, .f32⟩
  | 104 => ⟨S8x2048x8x128, .f32⟩
  | 105 => ⟨S8x2048x1024, .f32⟩
  | 106 => ⟨S8x2048x1024, .f32⟩
  | 107 => ⟨S_, .f32⟩
  | 108 => ⟨S8x2048x1024, .f32⟩
  | 109 => ⟨S8x2048x1024, .f32⟩
  | 110 => ⟨S8x2048x1024, .f32⟩
  | 111 => ⟨S_, .f32⟩
  | 112 => ⟨S8x2048x1024, .f32⟩
  | 113 => ⟨S8x2048x1024, .f32⟩
  | 114 => ⟨S8x2048x1024, .f32⟩
  | 115 => ⟨S_, .f32⟩
  | 116 => ⟨S8x2048x1024, .f32⟩
  | 117 => ⟨S8x2048x1024, .f32⟩
  | 118 => ⟨S_, .f32⟩
  | 119 => ⟨S8x2048x1024, .f32⟩
  | 120 => ⟨S8x2048x1024, .f32⟩
  | 121 => ⟨S8x2048x1024, .f32⟩
  | 122 => ⟨S8x2048x8x128, .f32⟩
  | 123 => ⟨S8x128, .f32⟩
  | 124 => ⟨S_, .f32⟩
  | 125 => ⟨S8x2048x8, .f32⟩
  | 126 => ⟨S8x2048x8x1, .f32⟩
  | 127 => ⟨S_, .f32⟩
  | _ => ⟨S16384x2048, .f32⟩

abbrev hbmTy0_1 (i : Nat) : BufTy := match i % 128 with
  | 0 => ⟨S8x2048x8x1, .f32⟩
  | 1 => ⟨S8x2048x8x1, .f32⟩
  | 2 => ⟨S8x2048x8x128, .f32⟩
  | 3 => ⟨S8x2048x8x128, .f32⟩
  | 4 => ⟨S8x2048x8x128, .f32⟩
  | 5 => ⟨S_, .f32⟩
  | 6 => ⟨S8x2048x8, .f32⟩
  | 7 => ⟨S8x2048x8x1, .f32⟩
  | 8 => ⟨S_, .f32⟩
  | 9 => ⟨S8x2048x8x1, .f32⟩
  | 10 => ⟨S8x2048x8x1, .f32⟩
  | 11 => ⟨S_, .f32⟩
  | 12 => ⟨S8x2048x8x1, .f32⟩
  | 13 => ⟨S8x2048x8x1, .f32⟩
  | 14 => ⟨S8x2048x8x1, .f32⟩
  | 15 => ⟨S8x2048x8x128, .f32⟩
  | 16 => ⟨S8x2048x8x128, .f32⟩
  | 17 => ⟨S1x1x8x128, .f32⟩
  | 18 => ⟨S8x2048x8x128, .f32⟩
  | 19 => ⟨S8x2048x8x128, .f32⟩
  | 20 => ⟨S8x16x128x8x128, .f32⟩
  | 21 => ⟨S_, .f32⟩
  | 22 => ⟨S128x128, .f32⟩
  | 23 => ⟨S128x128, .i32⟩
  | 24 => ⟨S_, .i32⟩
  | 25 => ⟨S128x128, .i32⟩
  | 26 => ⟨S128x128, .i32⟩
  | 27 => ⟨S128x128, .i32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S8x128x128, .f32⟩
  | 34 => ⟨S8x128x128, .f32⟩
  | 35 => ⟨S8x8x16x128x128, .f32⟩
  | 36 => ⟨S8x16x128x8x128, .f32⟩
  | 37 => ⟨S128x8, .f32⟩
  | 38 => ⟨S1x1x128x8x1, .f32⟩
  | 39 => ⟨S8x16x128x8x128, .f32⟩
  | 40 => ⟨S8x16x128x8x128, .f32⟩
  | 41 => ⟨S8x2048x8x128, .f32⟩
  | 42 => ⟨S8x2048x8x128, .f32⟩
  | 43 => ⟨S8x2048x1024, .f32⟩
  | 44 => ⟨S16384x1024, .f32⟩
  | 45 => ⟨S16384x1024, .f32⟩
  | 46 => ⟨S16384x1024, .f32⟩
  | 47 => ⟨S16384x3072, .f32⟩
  | 48 => ⟨S16384x3072, .bf16⟩
  | 49 => ⟨S16384x1024, .f32⟩
  | 50 => ⟨S16384x1024, .bf16⟩
  | 51 => ⟨S16384x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_12 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_v104 : Ref sig .tc := ⟨.hbm, 135, rfl⟩
abbrev main_cst_21 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_23 : Ref sig .tc := ⟨.hbm, 149, rfl⟩
abbrev main_v116 : Ref sig .tc := ⟨.hbm, 150, rfl⟩
abbrev main_call0_v0 : Ref sig .tc := ⟨.hbm, 151, rfl⟩
abbrev main_call0_c : Ref sig .tc := ⟨.hbm, 152, rfl⟩
abbrev main_call0_v1 : Ref sig .tc := ⟨.hbm, 153, rfl⟩
abbrev main_call0_v2 : Ref sig .tc := ⟨.hbm, 154, rfl⟩
abbrev main_call0_v3 : Ref sig .tc := ⟨.hbm, 155, rfl⟩
abbrev main_call0_v4 : Ref sig .tc := ⟨.hbm, 156, rfl⟩
abbrev main_call0_cst : Ref sig .tc := ⟨.hbm, 157, rfl⟩
abbrev main_call0_v5 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]
-- ==== Outproj.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S8x6x2048, .f32⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S8x1x2048 : Shape := ⟨3, ![8, 1, 2048]⟩
abbrev S8x2048 : Shape := ⟨2, ![8, 2048]⟩
abbrev S8x2048x2048 : Shape := ⟨3, ![8, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S8x6x2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S8x1x2048, .f32⟩
  | .hbm, ⟨11, _⟩ => ⟨S8x2048, .f32⟩
  | .hbm, ⟨12, _⟩ => ⟨S8x2048x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Fcumsum.lean ====
abbrev S16384x128 : Shape := ⟨2, ![16384, 128]⟩
abbrev S1x128 : Shape := ⟨2, ![1, 128]⟩
abbrev S8x8x2048 : Shape := ⟨3, ![8, 8, 2048]⟩
abbrev S2048x128 : Shape := ⟨2, ![2048, 128]⟩
abbrev S1x8x2048 : Shape := ⟨3, ![1, 8, 2048]⟩
abbrev S128x128 : Shape := ⟨2, ![128, 128]⟩
abbrev S8x128 : Shape := ⟨2, ![8, 128]⟩
abbrev S1x8x128 : Shape := ⟨3, ![1, 8, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S8x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S1x8x2048, .f32⟩
  | .local _ .vmem, ⟨4, _⟩ => ⟨S1x8x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FcumsumRefIdeal.lean ====
abbrev S16384x128 : Shape := ⟨2, ![16384, 128]⟩
abbrev S1x128 : Shape := ⟨2, ![1, 128]⟩
abbrev S16384x8 : Shape := ⟨2, ![16384, 8]⟩
abbrev S8x2048x8 : Shape := ⟨3, ![8, 2048, 8]⟩
abbrev S_ : Shape := ⟨0, ![]⟩
abbrev S8x8x2048 : Shape := ⟨3, ![8, 8, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .hbm, ⟨3, _⟩ => ⟨S16384x128, .f32⟩
  | .hbm, ⟨4, _⟩ => ⟨S16384x8, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x8, .f32⟩
  | .hbm, ⟨12, _⟩ => ⟨S8x2048x8, .i1⟩
  | .hbm, ⟨13, _⟩ => ⟨S8x2048x8, .f32⟩
  | .hbm, ⟨14, _⟩ => ⟨S8x2048x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S8x2048x8, .f32⟩
  | .hbm, ⟨22, _⟩ => ⟨S_, .f32⟩
  | .hbm, ⟨23, _⟩ => ⟨S_, .f32⟩
  | .hbm, ⟨24, _⟩ => ⟨S8x2048x8, .f32⟩
  | .hbm, ⟨25, _⟩ => ⟨S8x8x2048, .f32⟩
  | .hbm, ⟨26, _⟩ => ⟨S_, .f32⟩
  | .hbm, ⟨27, _⟩ => ⟨S8x8x2048, .f32⟩
  | .hbm, ⟨28, _⟩ => ⟨S8x8x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Adaln.lean ====
abbrev S8x2048 : Shape := ⟨2, ![8, 2048]⟩
abbrev S1x2048x12288 : Shape := ⟨3, ![1, 2048, 12288]⟩
abbrev S1x12288 : Shape := ⟨2, ![1, 12288]⟩
abbrev S1x2048x5128 : Shape := ⟨3, ![1, 2048, 5128]⟩
abbrev S2048x12288 : Shape := ⟨2, ![2048, 12288]⟩
abbrev S12288 : Shape := ⟨1, ![12288]⟩
abbrev S2048x5128 : Shape := ⟨2, ![2048, 5128]⟩
abbrev S5128x2048 : Shape := ⟨2, ![5128, 2048]⟩
abbrev S8x12288 : Shape := ⟨2, ![8, 12288]⟩
abbrev S5248x2048 : Shape := ⟨2, ![5248, 2048]⟩
abbrev S2048x768 : Shape := ⟨2, ![2048, 768]⟩
abbrev S1x768 : Shape := ⟨2, ![1, 768]⟩
abbrev S5128x128 : Shape := ⟨2, ![5128, 128]⟩
abbrev S8x768 : Shape := ⟨2, ![8, 768]⟩
abbrev S5248x128 : Shape := ⟨2, ![5248, 128]⟩
abbrev S1024x128 : Shape := ⟨2, ![1024, 128]⟩
abbrev S3072x128 : Shape := ⟨2, ![3072, 128]⟩
abbrev S128x128 : Shape := ⟨2, ![128, 128]⟩

abbrev nBuf : Space → Nat
  | .hbm => 11
  | .vmem => 11
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S1x2048x5128, .f32⟩
  | .hbm, ⟨4, _⟩ => ⟨S2048x12288, .f32⟩
  | .hbm, ⟨5, _⟩ => ⟨S12288, .f32⟩
  | .hbm, ⟨6, _⟩ => ⟨S2048x5128, .f32⟩
  | .hbm, ⟨7, _⟩ => ⟨S5128x2048, .f32⟩
  | .hbm, ⟨8, _⟩ => ⟨S1x12288, .f32⟩
  | .hbm, ⟨9, _⟩ => ⟨S8x12288, .f32⟩
  | .hbm, ⟨10, _⟩ => ⟨S5248x2048, .bf16⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S5128x128, .f32⟩
  | .local _ .vmem, ⟨6, _⟩ => ⟨S5128x128, .f32⟩
  | .local _ .vmem, ⟨7, _⟩ => ⟨S8x768, .f32⟩
  | .local _ .vmem, ⟨8, _⟩ => ⟨S8x768, .f32⟩
  | .local _ .vmem, ⟨9, _⟩ => ⟨S5248x128, .bf16⟩
  | .local _ .vmem, ⟨10, _⟩ => ⟨S5248x128, .bf16⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5248x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AdalnRefIdeal.lean ====
abbrev S8x2048 : Shape := ⟨2, ![8, 2048]⟩
abbrev S1x2048x12288 : Shape := ⟨3, ![1, 2048, 12288]⟩
abbrev S1x12288 : Shape := ⟨2, ![1, 12288]⟩
abbrev S1x2048x5128 : Shape := ⟨3, ![1, 2048, 5128]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S2048x5128 : Shape := ⟨2, ![2048, 5128]⟩
abbrev S5128x2048 : Shape := ⟨2, ![5128, 2048]⟩
abbrev S3072x2048 : Shape := ⟨2, ![3072, 2048]⟩
abbrev S1024x2048 : Shape := ⟨2, ![1024, 2048]⟩
abbrev S120x2048 : Shape := ⟨2, ![120, 2048]⟩
abbrev S5248x2048 : Shape := ⟨2, ![5248, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S1x2048x5128, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S2048x12288, .f32⟩
  | .hbm, ⟨14, _⟩ => ⟨S8x12288, .f32⟩
  | .hbm, ⟨15, _⟩ => ⟨S12288, .f32⟩
  | .hbm, ⟨16, _⟩ => ⟨S1x12288, .f32⟩
  | .hbm, ⟨17, _⟩ => ⟨S8x12288, .f32⟩
  | .hbm, ⟨18, _⟩ => ⟨S8x12288, .f32⟩
  | .hbm, ⟨19, _⟩ => ⟨S2048x5128, .f32⟩
  | .hbm, ⟨20, _⟩ => ⟨S5128x2048, .f32⟩
  | .hbm, ⟨21, _⟩ => ⟨S3072x2048, .f32⟩
  | .hbm, ⟨22, _⟩ => ⟨S8x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S120x2048, .f32⟩
  | .hbm, ⟨27, _⟩ => ⟨S5248x2048, .f32⟩
  | .hbm, ⟨28, _⟩ => ⟨S5248x2048, .bf16⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.SoftRow.lean ====
/- One row of causal softmax attention over the extended reals, as pure arithmetic: for real logits, the row computed with
   powers of two over a prefix of the keys and divided at the end, and the row of natural exponentials normalised first,
   are the same weighted sum of the values. -/
module

public import Idealize.ShloMosaic.Lib.Pointwise
public import Idealize.ShloMosaic.Lib.IdealHost

@[expose] public section

noncomputable section

namespace Cert.SoftRow

open Idealize.ShloMosaic

/-- The coercion of a real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The greatest entry of a row of reals and minus infinities, one of them real, is a real. -/
theorem fold_max_real {ι : Type} [Fintype ι] (a : ι → EReal) (htop : ∀ i, a i ≠ ⊤) (i₀ : ι) (h₀ : a i₀ ≠ ⊥) :
    ∃ M : ℝ, Finset.univ.fold max ⊥ a = (M : EReal) := by
  have hb : Finset.univ.fold max ⊥ a ≠ ⊥ := by
    intro h
    have h1 : a i₀ ≤ Finset.univ.fold max ⊥ a := (Finset.le_fold_max _).2 (Or.inr ⟨i₀, Finset.mem_univ _, le_rfl⟩)
    rw [h] at h1
    exact h₀ (le_bot_iff.1 h1)
  have ht : Finset.univ.fold max ⊥ a ≠ ⊤ := by
    apply ne_of_lt
    rw [Finset.fold_max_lt]
    exact ⟨bot_lt_top, fun i _ => lt_top_iff_ne_top.2 (htop i)⟩
  exact ⟨_, (EReal.coe_toReal ht hb).symm⟩

/-- The kernel's row: weights `2^(a s - M)`, `M` the greatest logit (with the row's own bias added and taken off again),
    the weighted sum of `v` over the weighted sum of `w`. -/
def rowOut {n : ℕ} (a : Fin n → EReal) (f : EReal) (v w : Fin n → EReal) : EReal :=
  Ideal.div (∑ s, Ideal.exp2 (a s - (Finset.univ.fold max ⊥ a + f - f)) * v s)
    (∑ s, Ideal.exp2 (a s - (Finset.univ.fold max ⊥ a + f - f)) * w s)

/-- The weight of key `s` in row `t`: `2^(ℓ s)` up to `t`, nothing after. -/
def wt (ℓ : Fin 2048 → ℝ) (t : ℕ) (s : Fin 2048) : ℝ := if s.val ≤ t then Real.rpow 2 (ℓ s) else 0

/-- The row's total weight. -/
def total (ℓ : Fin 2048 → ℝ) (t : ℕ) : ℝ := ∑ s, wt ℓ t s

/-- The attention row: the values weighted by their share of the total weight. -/
def soft (ℓ : Fin 2048 → ℝ) (t : ℕ) (v : Fin 2048 → EReal) : EReal := ∑ s, ((wt ℓ t s / total ℓ t : ℝ) : EReal) * v s

theorem wt_nonneg (ℓ : Fin 2048 → ℝ) (t : ℕ) (s : Fin 2048) : 0 ≤ wt ℓ t s := by
  unfold wt
  split_ifs
  · exact (Real.rpow_pos_of_pos two_pos _).le
  · exact le_rfl

theorem total_pos (ℓ : Fin 2048 → ℝ) (t : ℕ) : 0 < total ℓ t := by
  refine Finset.sum_pos' (fun s _ => wt_nonneg ℓ t s) ⟨⟨0, by norm_num⟩, Finset.mem_univ _, ?_⟩
  unfold wt
  rw [if_pos (Nat.zero_le _)]
  exact Real.rpow_pos_of_pos two_pos _

/-- The common step: weights that are a positive constant times the row's weights, over their sum, give the row. -/
theorem soft_of_scaled (ℓ : Fin 2048 → ℝ) (t : ℕ) (v : Fin 2048 → EReal) {c : ℝ} (hc : 0 < c) :
    ∀ s, (c * wt ℓ t s) * (1 / ∑ s, c * wt ℓ t s) = wt ℓ t s / total ℓ t := by
  intro s
  rw [← Finset.mul_sum, ← total]
  have := (total_pos ℓ t).ne'
  field_simp

/-- THE KERNEL'S ROW: over any prefix of the keys that reaches past row `t`. -/
theorem rowOut_eq {n : ℕ} (hn : n ≤ 2048) {t : ℕ} (ht : t < n) (ℓ : Fin 2048 → ℝ) (f : ℝ) (v : Fin 2048 → EReal)
    (a v' w : Fin n → EReal) (F : EReal) (hF : F = (f : EReal))
    (ha : ∀ s : Fin n, a s = if s.val ≤ t then ((ℓ (Fin.castLE hn s) : ℝ) : EReal) else ⊥)
    (hv : ∀ s, v' s = v (Fin.castLE hn s)) (hw : ∀ s, w s = 1) : rowOut a F v' w = soft ℓ t v := by
  have htop : ∀ i, a i ≠ ⊤ := fun i => by rw [ha]; split_ifs; exacts [EReal.coe_ne_top _, bot_ne_top]
  obtain ⟨M, hM⟩ := fold_max_real a htop ⟨t, ht⟩ (by rw [ha, if_pos le_rfl]; exact EReal.coe_ne_bot _)
  have hMf : Finset.univ.fold max ⊥ a + F - F = (M : EReal) := by
    rw [hM, hF, ← EReal.coe_add, ← EReal.coe_sub]; norm_num
  have hc : 0 < Real.rpow 2 (-M) := Real.rpow_pos_of_pos two_pos _
  have he : ∀ s : Fin n, Ideal.exp2 (a s - M) = ((Real.rpow 2 (-M) * wt ℓ t (Fin.castLE hn s) : ℝ) : EReal) := by
    intro s
    rw [ha]
    unfold wt
    simp only [Fin.val_castLE]
    split_ifs
    · rw [← EReal.coe_sub, Ideal.exp2_coe]
      congr 1
      simp only [Real.rpow_eq_pow]
      rw [← Real.rpow_add two_pos]; ring_nf
    · rw [EReal.bot_sub, Ideal.exp2_bot]; simp
  have hden : ∑ s : Fin n, Ideal.exp2 (a s - M) * w s = ((∑ s, Real.rpow 2 (-M) * wt ℓ t s : ℝ) : EReal) := by
    rw [coe_sum]
    refine Fintype.sum_of_injective (Fin.castLE hn) (Fin.castLE_injective hn) _ _ (fun s hs => ?_) fun s => by rw [he, hw, mul_one]
    have : ¬ s.val ≤ t := fun h => hs ⟨⟨s.val, by omega⟩, rfl⟩
    simp [wt, this]
  have hpos : 0 < ∑ s, Real.rpow 2 (-M) * wt ℓ t s := by
    rw [← Finset.mul_sum]; exact mul_pos hc (total_pos ℓ t)
  unfold rowOut
  simp only [hMf]
  rw [hden, Ideal.div_coe hpos.ne', sum_mul_coe _ _ (by positivity)]
  unfold soft
  refine Fintype.sum_of_injective (Fin.castLE hn) (Fin.castLE_injective hn) _ _ (fun s hs => ?_) fun s => ?_
  · have : ¬ s.val ≤ t := fun h => hs ⟨⟨s.val, by omega⟩, rfl⟩
    simp [wt, this]
  · rw [he, hv, ← soft_of_scaled ℓ t v hc, EReal.coe_mul (_ * _), mul_right_comm]

/-- THE REFERENCE'S ROW: natural exponentials of the logits times `log 2`, normalised, then applied to the values. -/
theorem ref_row {t : ℕ} (ht : t < 2048) (ℓ : Fin 2048 → ℝ) (f : ℝ) (v : Fin 2048 → EReal) (a : Fin 2048 → EReal)
    (ha : ∀ s : Fin 2048, a s = if s.val ≤ t then (((ℓ s + f) * Real.log 2 : ℝ) : EReal) else ⊥) :
    ∑ s, v s * Ideal.div (Ideal.exp (a s - max ⊥ (Finset.univ.fold max ⊥ a)))
      (0 + ∑ s, Ideal.exp (a s - max ⊥ (Finset.univ.fold max ⊥ a))) = soft ℓ t v := by
  have htop : ∀ i, a i ≠ ⊤ := fun i => by rw [ha]; split_ifs; exacts [EReal.coe_ne_top _, bot_ne_top]
  obtain ⟨M, hM⟩ := fold_max_real a htop ⟨t, ht⟩ (by rw [ha, if_pos le_rfl]; exact EReal.coe_ne_bot _)
  have hMf : max ⊥ (Finset.univ.fold max ⊥ a) = (M : EReal) := by rw [hM]; exact max_eq_right bot_le
  have hc : 0 < Real.exp (f * Real.log 2 - M) := Real.exp_pos _
  have he : ∀ s : Fin 2048, Ideal.exp (a s - M) = ((Real.exp (f * Real.log 2 - M) * wt ℓ t s : ℝ) : EReal) := by
    intro s
    rw [ha]
    unfold wt
    split_ifs
    · rw [← EReal.coe_sub, Ideal.exp_coe]
      congr 1
      simp only [Real.rpow_eq_pow]
      rw [Real.rpow_def_of_pos two_pos, ← Real.exp_add]; ring_nf
    · rw [EReal.bot_sub, Ideal.exp_bot]; simp
  have hpos : 0 < ∑ s, Real.exp (f * Real.log 2 - M) * wt ℓ t s := by
    rw [← Finset.mul_sum]; exact mul_pos hc (total_pos ℓ t)
  simp only [hMf, he, zero_add]
  rw [← coe_sum, soft]
  refine Finset.sum_congr rfl fun s _ => ?_
  rw [Ideal.div_coe hpos.ne', ← EReal.coe_mul, soft_of_scaled ℓ t v hc, mul_comm]

end Cert.SoftRow

end
-- ==== Proof.AttnMask.lean ====
/- The causal mask of the attention kernel, entry by entry. -/
module

public import proofs.«01_k».proof.Proof.Gen.AttnIdeal.Value
public import proofs.«01_k».proof.Proof.SoftRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

/-- The pattern of minus infinity is the least extended real. -/
theorem ninf : (Ideal.ofBits .f32 0xFF800000#32 : EReal) = ⊥ := by simp [Ideal.ofBits, Ideal.ieee]

/-- Selecting by a comparison of two small positions. -/
theorem select_sle {a b : ℕ} (x y : EReal) (ha : a < 512) (hb : b < 512) :
    (Scalar.select (IntOp.cmpi .sle (BitVec.ofNat 32 a) (BitVec.ofNat 32 b)) x y : EReal) = if a ≤ b then x else y := by
  have h : BitVec.sle (BitVec.ofNat 32 a) (BitVec.ofNat 32 b) = decide (a ≤ b) := by
    rw [BitVec.sle_eq_decide, BitVec.toInt_ofNat', BitVec.toInt_ofNat']
    congr 1
    rw [Int.bmod_eq_of_le (by omega) (by omega), Int.bmod_eq_of_le (by omega) (by omega)]
    exact propext (by omega)
  simp only [Scalar.select, IntOp.cmpi, h]
  by_cases hab : a ≤ b <;> simp [hab]

end Cert.AttnIdeal.Soft

end
-- ==== Proof.AttnBlock0.lean ====
/- The attention kernel's stored blocks: the 256 rows of each half block of queries 0 are rows of prefix attention
   over the keys the half block reads. -/
module

public import proofs.«01_k».proof.Proof.Gen.AttnIdeal.Value
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

set_option maxHeartbeats 4000000 in
/-- Head 0 of the pair, rows 0 to 255 (keys 0 to 255). -/
theorem piece_0_0_0 (q : FVec Ideal S1x256x128 .bf16) (k : FVec Ideal S1x256x128 .bf16) (f : FVec Ideal S1x1x1x256 .f32)
    (fq : FVec Ideal S1x1x1x512 .f32) (vb : FVec Ideal S1x256x256 .bf16) (r : Fin 256) (c : Fin 128) :
    k0_pay65 (F := Ideal) (k0_pay62 k0_pay9 (k0_pay35 (k0_pay34 q) k f)) (k0_pay63 fq) (k0_pay64 k0_pay9 (k0_pay35 (k0_pay34 q) k f) fq) vb (ix3 0 r c)
      = rowOut (fun s : Fin 256 => if s.val ≤ r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay64
  dsimp only
  generalize hA : k0_pay62 (F := Ideal) _ _ = A
  have ha : ∀ s : Fin 256, A (ix2 r s) = if s.val ≤ r.val then (∑ d : Fin 128, q (ix3 0 r d) * k (ix3 0 s d)) - f (ix4 0 0 0 s) else ⊥ := by
    intro s
    rw [← hA]
    pointwise [k0_pay9, k0_pay35, k0_pay34, k0_pay62]
    rw [select_sle _ _ (by omega) (by omega)]
    simp only [ninf]
  pointwise [k0_pay65, k0_pay63, k0_pay60, rowOut]
  simp only [ninf, ha]
  rfl

set_option maxHeartbeats 4000000 in
/-- Head 0 of the pair, rows 256 to 511 (keys 0 to 511). -/
theorem piece_0_0_1 (q : FVec Ideal S1x256x128 .bf16) (k : FVec Ideal S1x512x128 .bf16) (f : FVec Ideal S1x1x1x512 .f32)
    (fq : FVec Ideal S1x1x1x512 .f32) (vb : FVec Ideal S1x512x256 .bf16) (r : Fin 256) (c : Fin 128) :
    k0_pay66 (F := Ideal) k0_pay9 (k0_pay36 q k f) (k0_pay60 fq) vb (ix3 0 r c)
      = rowOut (fun s : Fin 512 => if s.val ≤ 256 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay66
  dsimp only
  generalize hA : select (s := S256x512) _ _ _ = A
  have ha : ∀ s : Fin 512, A (ix2 r s) = if s.val ≤ 256 + r.val then (∑ d : Fin 128, q (ix3 0 r d) * k (ix3 0 s d)) - f (ix4 0 0 0 s) else ⊥ := by
    intro s
    rw [← hA]
    pointwise [k0_pay9, k0_pay36]
    rw [select_sle _ _ (by omega) (by omega)]
    simp only [ninf]
  pointwise [k0_pay60, rowOut]
  simp only [ninf, ha]
  rfl

set_option maxHeartbeats 4000000 in
/-- Head 1 of the pair, rows 0 to 255 (keys 0 to 255). -/
theorem piece_0_1_0 (q : FVec Ideal S1x256x128 .bf16) (k : FVec Ideal S1x256x128 .bf16) (f : FVec Ideal S1x1x1x256 .f32)
    (fq : FVec Ideal S1x1x1x512 .f32) (vb : FVec Ideal S1x256x256 .bf16) (r : Fin 256) (c : Fin 128) :
    k0_pay69 (F := Ideal) (k0_pay67 k0_pay9 (k0_pay37 q k f)) (k0_pay68 (k0_pay61 fq)) vb (ix3 0 r c)
      = rowOut (fun s : Fin 256 => if s.val ≤ r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay69
  dsimp only
  generalize hA : k0_pay67 (F := Ideal) _ _ = A
  have ha : ∀ s : Fin 256, A (ix2 r s) = if s.val ≤ r.val then (∑ d : Fin 128, q (ix3 0 r d) * k (ix3 0 s d)) - f (ix4 0 0 0 s) else ⊥ := by
    intro s
    rw [← hA]
    pointwise [k0_pay9, k0_pay37, k0_pay67]
    rw [select_sle _ _ (by omega) (by omega)]
    simp only [ninf]
  pointwise [k0_pay68, k0_pay61, rowOut]
  simp only [ninf, ha]
  rfl

set_option maxHeartbeats 4000000 in
/-- Head 1 of the pair, rows 256 to 511 (keys 0 to 511). -/
theorem piece_0_1_1 (q : FVec Ideal S1x256x128 .bf16) (k : FVec Ideal S1x512x128 .bf16) (f : FVec Ideal S1x1x1x512 .f32)
    (fq : FVec Ideal S1x1x1x512 .f32) (vb : FVec Ideal S1x512x256 .bf16) (r : Fin 256) (c : Fin 128) :
    k0_pay1 (F := Ideal) (k0_pay70 k0_pay9 (k0_pay39 (k0_pay38 q) k f) (k0_pay61 fq)) vb (ix3 0 r c)
      = rowOut (fun s : Fin 512 => if s.val ≤ 256 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay70
  dsimp only
  generalize hA : select (s := S256x512) _ _ _ = A
  have ha : ∀ s : Fin 512, A (ix2 r s) = if s.val ≤ 256 + r.val then (∑ d : Fin 128, q (ix3 0 r d) * k (ix3 0 s d)) - f (ix4 0 0 0 s) else ⊥ := by
    intro s
    rw [← hA]
    pointwise [k0_pay9, k0_pay39, k0_pay38]
    rw [select_sle _ _ (by omega) (by omega)]
    simp only [ninf]
  pointwise [k0_pay1, k0_pay61, rowOut]
  simp only [ninf, ha]
  rfl

end Cert.AttnIdeal.Soft

end
-- ==== Proof.AttnBlock1.lean ====
/- The attention kernel's stored blocks: the 256 rows of each half block of queries 1 are rows of prefix attention
   over the keys the half block reads. -/
module

public import proofs.«01_k».proof.Proof.Gen.AttnIdeal.Value
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

set_option maxHeartbeats 4000000 in
/-- Head 0 of the pair, rows 512 to 767 (keys 0 to 767). -/
theorem piece_1_0_0 (q : FVec Ideal S1x256x128 .bf16) (k : FVec Ideal S1x768x128 .bf16) (f : FVec Ideal S1x1x1x768 .f32)
    (fq : FVec Ideal S1x1x1x512 .f32) (vb : FVec Ideal S1x768x256 .bf16) (r : Fin 256) (c : Fin 128) :
    k0_pay51 (F := Ideal) k0_pay9 (k0_pay21 (k0_pay20 q) k f) (k0_pay48 fq) vb (ix3 0 r c)
      = rowOut (fun s : Fin 768 => if s.val ≤ 512 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay51
  dsimp only
  generalize hA : concatenate S256x768 1 _ _ = A
  have ha : ∀ s : Fin 768, A (ix2 r s) = if s.val ≤ 512 + r.val then (∑ d : Fin 128, q (ix3 0 r d) * k (ix3 0 s d)) - f (ix4 0 0 0 s) else ⊥ := by
    intro s
    rw [← hA]
    pointwise [k0_pay9, k0_pay21, k0_pay20]
    by_cases hs : s.val < 512
    · rw [dif_pos hs, if_pos (by omega)]
    · have e : 512 + (s.val - 512) = s.val := by omega
      rw [dif_neg hs, select_sle _ _ (by omega) (by omega)]
      simp only [e, Fin.eta, ninf]
      refine if_congr (by omega) rfl rfl
  pointwise [k0_pay49, k0_pay48, rowOut]
  simp only [ninf, ha]
  rfl

set_option maxHeartbeats 4000000 in
/-- Head 0 of the pair, rows 768 to 1023 (keys 0 to 1023). -/
theorem piece_1_0_1 (q : FVec Ideal S1x256x128 .bf16) (k : FVec Ideal S1x1024x128 .bf16) (f : FVec Ideal S1x1x1x1024 .f32)
    (fq : FVec Ideal S1x1x1x512 .f32) (vb : FVec Ideal S1x1024x256 .bf16) (r : Fin 256) (c : Fin 128) :
    k0_pay54 (F := Ideal) (k0_pay52 k0_pay9 (k0_pay22 q k f)) (k0_pay53 k0_pay9 (k0_pay22 q k f) (k0_pay48 fq)) vb (ix3 0 r c)
      = rowOut (fun s : Fin 1024 => if s.val ≤ 768 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay53
  dsimp only
  generalize hA : k0_pay52 (F := Ideal) _ _ = A
  have ha : ∀ s : Fin 1024, A (ix2 r s) = if s.val ≤ 768 + r.val then (∑ d : Fin 128, q (ix3 0 r d) * k (ix3 0 s d)) - f (ix4 0 0 0 s) else ⊥ := by
    intro s
    rw [← hA]
    pointwise [k0_pay9, k0_pay22, k0_pay52]
    by_cases hs : s.val < 512
    · rw [dif_pos hs, if_pos (by omega)]
    · have e : 512 + (s.val - 512) = s.val := by omega
      rw [dif_neg hs, select_sle _ _ (by omega) (by omega)]
      simp only [e, Fin.eta, ninf]
      refine if_congr (by omega) rfl rfl
  pointwise [k0_pay54, k0_pay49, k0_pay48, rowOut]
  simp only [ninf, ha]
  rfl

set_option maxHeartbeats 4000000 in
/-- Head 1 of the pair, rows 512 to 767 (keys 0 to 767). -/
theorem piece_1_1_0 (q : FVec Ideal S1x256x128 .bf16) (k : FVec Ideal S1x768x128 .bf16) (f : FVec Ideal S1x1x1x768 .f32)
    (fq : FVec Ideal S1x1x1x512 .f32) (vb : FVec Ideal S1x768x256 .bf16) (r : Fin 256) (c : Fin 128) :
    k0_pay55 (F := Ideal) k0_pay9 (k0_pay23 q k f) (k0_pay50 fq) vb (ix3 0 r c)
      = rowOut (fun s : Fin 768 => if s.val ≤ 512 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay55
  dsimp only
  generalize hA : concatenate S256x768 1 _ _ = A
  have ha : ∀ s : Fin 768, A (ix2 r s) = if s.val ≤ 512 + r.val then (∑ d : Fin 128, q (ix3 0 r d) * k (ix3 0 s d)) - f (ix4 0 0 0 s) else ⊥ := by
    intro s
    rw [← hA]
    pointwise [k0_pay9, k0_pay23]
    by_cases hs : s.val < 512
    · rw [dif_pos hs, if_pos (by omega)]
    · have e : 512 + (s.val - 512) = s.val := by omega
      rw [dif_neg hs, select_sle _ _ (by omega) (by omega)]
      simp only [e, Fin.eta, ninf]
      refine if_congr (by omega) rfl rfl
  pointwise [k0_pay50, rowOut]
  simp only [ninf, ha]
  rfl

set_option maxHeartbeats 4000000 in
/-- Head 1 of the pair, rows 768 to 1023 (keys 0 to 1023). -/
theorem piece_1_1_1 (q : FVec Ideal S1x256x128 .bf16) (k : FVec Ideal S1x1024x128 .bf16) (f : FVec Ideal S1x1x1x1024 .f32)
    (fq : FVec Ideal S1x1x1x512 .f32) (vb : FVec Ideal S1x1024x256 .bf16) (r : Fin 256) (c : Fin 128) :
    k0_pay59 (F := Ideal) (k0_pay25 (k0_pay24 q) k f) (k0_pay50 fq) (k0_pay56 k0_pay9) (k0_pay57 (k0_pay25 (k0_pay24 q) k f)) k0_pay58 vb (ix3 0 r c)
      = rowOut (fun s : Fin 1024 => if s.val ≤ 768 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay59
  dsimp only
  generalize hA : concatenate S256x1024 1 _ _ = A
  have ha : ∀ s : Fin 1024, A (ix2 r s) = if s.val ≤ 768 + r.val then (∑ d : Fin 128, q (ix3 0 r d) * k (ix3 0 s d)) - f (ix4 0 0 0 s) else ⊥ := by
    intro s
    rw [← hA]
    pointwise [k0_pay9, k0_pay25, k0_pay24, k0_pay56, k0_pay57, k0_pay58]
    by_cases hs : s.val < 512
    · rw [dif_pos hs, if_pos (by omega)]
    · have e : 512 + (s.val - 512) = s.val := by omega
      rw [dif_neg hs, select_sle _ _ (by omega) (by omega)]
      simp only [e, Fin.eta, ninf]
      refine if_congr (by omega) rfl rfl
  pointwise [k0_pay50, rowOut]
  simp only [ninf, ha]
  rfl

end Cert.AttnIdeal.Soft

end
-- ==== Proof.AttnBlock2.lean ====
/- The attention kernel's stored blocks: the 256 rows of each half block of queries 2 are rows of prefix attention
   over the keys the half block reads. -/
module

public import proofs.«01_k».proof.Proof.Gen.AttnIdeal.Value
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

set_option maxHeartbeats 4000000 in
/-- Head 0 of the pair, rows 1024 to 1279 (keys 0 to 1279). -/
theorem piece_2_0_0 (q : FVec Ideal S1x256x128 .bf16) (k : FVec Ideal S1x1280x128 .bf16) (f : FVec Ideal S1x1x1x1280 .f32)
    (fq : FVec Ideal S1x1x1x512 .f32) (vb : FVec Ideal S1x1280x256 .bf16) (r : Fin 256) (c : Fin 128) :
    k0_pay43 (F := Ideal) (k0_pay42 k0_pay9 (k0_pay15 q k f) fq vb) (ix3 0 r c)
      = rowOut (fun s : Fin 1280 => if s.val ≤ 1024 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay42
  dsimp only
  generalize hA : concatenate S256x1280 1 _ _ = A
  have ha : ∀ s : Fin 1280, A (ix2 r s) = if s.val ≤ 1024 + r.val then (∑ d : Fin 128, q (ix3 0 r d) * k (ix3 0 s d)) - f (ix4 0 0 0 s) else ⊥ := by
    intro s
    rw [← hA]
    pointwise [k0_pay9, k0_pay15]
    by_cases hs : s.val < 1024
    · rw [dif_pos hs, if_pos (by omega)]
    · have e : 1024 + (s.val - 1024) = s.val := by omega
      rw [dif_neg hs, select_sle _ _ (by omega) (by omega)]
      simp only [e, Fin.eta, ninf]
      refine if_congr (by omega) rfl rfl
  pointwise [k0_pay43, k0_pay40, rowOut]
  simp only [ninf, ha]
  rfl

set_option maxHeartbeats 4000000 in
/-- Head 0 of the pair, rows 1280 to 1535 (keys 0 to 1535). -/
theorem piece_2_0_1 (q : FVec Ideal S1x256x128 .bf16) (k : FVec Ideal S1x1536x128 .bf16) (f : FVec Ideal S1x1x1x1536 .f32)
    (fq : FVec Ideal S1x1x1x512 .f32) (vb : FVec Ideal S1x1536x256 .bf16) (r : Fin 256) (c : Fin 128) :
    k0_pay44 (F := Ideal) k0_pay9 (k0_pay17 (k0_pay16 q) k f) (k0_pay40 fq) vb (ix3 0 r c)
      = rowOut (fun s : Fin 1536 => if s.val ≤ 1280 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay44
  dsimp only
  generalize hA : concatenate S256x1536 1 _ _ = A
  have ha : ∀ s : Fin 1536, A (ix2 r s) = if s.val ≤ 1280 + r.val then (∑ d : Fin 128, q (ix3 0 r d) * k (ix3 0 s d)) - f (ix4 0 0 0 s) else ⊥ := by
    intro s
    rw [← hA]
    pointwise [k0_pay9, k0_pay17, k0_pay16]
    by_cases hs : s.val < 1024
    · rw [dif_pos hs, if_pos (by omega)]
    · have e : 1024 + (s.val - 1024) = s.val := by omega
      rw [dif_neg hs, select_sle _ _ (by omega) (by omega)]
      simp only [e, Fin.eta, ninf]
      refine if_congr (by omega) rfl rfl
  pointwise [k0_pay40, rowOut]
  simp only [ninf, ha]
  rfl

set_option maxHeartbeats 4000000 in
/-- Head 1 of the pair, rows 1024 to 1279 (keys 0 to 1279). -/
theorem piece_2_1_0 (q : FVec Ideal S1x256x128 .bf16) (k : FVec Ideal S1x1280x128 .bf16) (f : FVec Ideal S1x1x1x1280 .f32)
    (fq : FVec Ideal S1x1x1x512 .f32) (vb : FVec Ideal S1x1280x256 .bf16) (r : Fin 256) (c : Fin 128) :
    k0_pay46 (F := Ideal) (k0_pay45 k0_pay9 (k0_pay18 q k f) (k0_pay41 fq)) vb (ix3 0 r c)
      = rowOut (fun s : Fin 1280 => if s.val ≤ 1024 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay45
  dsimp only
  generalize hA : concatenate S256x1280 1 _ _ = A
  have ha : ∀ s : Fin 1280, A (ix2 r s) = if s.val ≤ 1024 + r.val then (∑ d : Fin 128, q (ix3 0 r d) * k (ix3 0 s d)) - f (ix4 0 0 0 s) else ⊥ := by
    intro s
    rw [← hA]
    pointwise [k0_pay9, k0_pay18]
    by_cases hs : s.val < 1024
    · rw [dif_pos hs, if_pos (by omega)]
    · have e : 1024 + (s.val - 1024) = s.val := by omega
      rw [dif_neg hs, select_sle _ _ (by omega) (by omega)]
      simp only [e, Fin.eta, ninf]
      refine if_congr (by omega) rfl rfl
  pointwise [k0_pay46, k0_pay41, rowOut]
  simp only [ninf, ha]
  rfl

set_option maxHeartbeats 4000000 in
/-- Head 1 of the pair, rows 1280 to 1535 (keys 0 to 1535). -/
theorem piece_2_1_1 (q : FVec Ideal S1x256x128 .bf16) (k : FVec Ideal S1x1536x128 .bf16) (f : FVec Ideal S1x1x1x1536 .f32)
    (fq : FVec Ideal S1x1x1x512 .f32) (vb : FVec Ideal S1x1536x256 .bf16) (r : Fin 256) (c : Fin 128) :
    k0_pay47 (F := Ideal) k0_pay9 (k0_pay19 q k f) (k0_pay41 fq) vb (ix3 0 r c)
      = rowOut (fun s : Fin 1536 => if s.val ≤ 1280 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay47
  dsimp only
  generalize hA : concatenate S256x1536 1 _ _ = A
  have ha : ∀ s : Fin 1536, A (ix2 r s) = if s.val ≤ 1280 + r.val then (∑ d : Fin 128, q (ix3 0 r d) * k (ix3 0 s d)) - f (ix4 0 0 0 s) else ⊥ := by
    intro s
    rw [← hA]
    pointwise [k0_pay9, k0_pay19]
    by_cases hs : s.val < 1024
    · rw [dif_pos hs, if_pos (by omega)]
    · have e : 1024 + (s.val - 1024) = s.val := by omega
      rw [dif_neg hs, select_sle _ _ (by omega) (by omega)]
      simp only [e, Fin.eta, ninf]
      refine if_congr (by omega) rfl rfl
  pointwise [k0_pay41, rowOut]
  simp only [ninf, ha]
  rfl

end Cert.AttnIdeal.Soft

end
-- ==== Proof.AttnBlock3.lean ====
/- The attention kernel's stored blocks: the 256 rows of each half block of queries 3 are rows of prefix attention
   over the keys the half block reads. -/
module

public import proofs.«01_k».proof.Proof.Gen.AttnIdeal.Value
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

set_option maxHeartbeats 4000000 in
/-- Head 0 of the pair, rows 1536 to 1791 (keys 0 to 1791). -/
theorem piece_3_0_0 (q : FVec Ideal S1x256x128 .bf16) (k : FVec Ideal S1x1792x128 .bf16) (f : FVec Ideal S1x1x1x1792 .f32)
    (fq : FVec Ideal S1x1x1x512 .f32) (vb : FVec Ideal S1x1792x256 .bf16) (r : Fin 256) (c : Fin 128) :
    k0_pay29 (F := Ideal) (k0_pay28 k0_pay9 (k0_pay10 q k f) fq vb) (ix3 0 r c)
      = rowOut (fun s : Fin 1792 => if s.val ≤ 1536 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay28
  dsimp only
  generalize hA : concatenate S256x1792 1 _ _ = A
  have ha : ∀ s : Fin 1792, A (ix2 r s) = if s.val ≤ 1536 + r.val then (∑ d : Fin 128, q (ix3 0 r d) * k (ix3 0 s d)) - f (ix4 0 0 0 s) else ⊥ := by
    intro s
    rw [← hA]
    pointwise [k0_pay9, k0_pay10]
    by_cases hs : s.val < 1536
    · rw [dif_pos hs, if_pos (by omega)]
    · have e : 1536 + (s.val - 1536) = s.val := by omega
      rw [dif_neg hs, select_sle _ _ (by omega) (by omega)]
      simp only [e, Fin.eta, ninf]
      refine if_congr (by omega) rfl rfl
  pointwise [k0_pay29, k0_pay26, rowOut]
  simp only [ninf, ha]
  rfl

set_option maxHeartbeats 4000000 in
/-- Head 0 of the pair, rows 1792 to 2047 (keys 0 to 2047). -/
theorem piece_3_0_1 (q : FVec Ideal S1x256x128 .bf16) (k : FVec Ideal S1x2048x128 .bf16) (f : FVec Ideal S1x1x1x2048 .f32)
    (fq : FVec Ideal S1x1x1x512 .f32) (vb : FVec Ideal S1x2048x256 .bf16) (r : Fin 256) (c : Fin 128) :
    k0_pay30 (F := Ideal) k0_pay9 (k0_pay11 q k f) (k0_pay26 fq) vb (ix3 0 r c)
      = rowOut (fun s : Fin 2048 => if s.val ≤ 1792 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay30
  dsimp only
  generalize hA : concatenate S256x2048 1 _ _ = A
  have ha : ∀ s : Fin 2048, A (ix2 r s) = if s.val ≤ 1792 + r.val then (∑ d : Fin 128, q (ix3 0 r d) * k (ix3 0 s d)) - f (ix4 0 0 0 s) else ⊥ := by
    intro s
    rw [← hA]
    pointwise [k0_pay9, k0_pay11]
    by_cases hs : s.val < 1536
    · rw [dif_pos hs, if_pos (by omega)]
    · have e : 1536 + (s.val - 1536) = s.val := by omega
      rw [dif_neg hs, select_sle _ _ (by omega) (by omega)]
      simp only [e, Fin.eta, ninf]
      refine if_congr (by omega) rfl rfl
  pointwise [k0_pay26, rowOut]
  simp only [ninf, ha]
  rfl

set_option maxHeartbeats 4000000 in
/-- Head 1 of the pair, rows 1536 to 1791 (keys 0 to 1791). -/
theorem piece_3_1_0 (q : FVec Ideal S1x256x128 .bf16) (k : FVec Ideal S1x1792x128 .bf16) (f : FVec Ideal S1x1x1x1792 .f32)
    (fq : FVec Ideal S1x1x1x512 .f32) (vb : FVec Ideal S1x1792x256 .bf16) (r : Fin 256) (c : Fin 128) :
    k0_pay32 (F := Ideal) (k0_pay31 k0_pay9 (k0_pay13 (k0_pay12 q) k f) (k0_pay27 fq)) vb (ix3 0 r c)
      = rowOut (fun s : Fin 1792 => if s.val ≤ 1536 + r.val then (∑ d : Fin 128, q (ix3 0 r d) * k (ix3 0 s d)) - f (ix4 0 0 0 s) else ⊥)
          (fq (ix4 0 0 0 ⟨r.val, by omega⟩)) (fun s => vb (ix3 0 s ⟨c.val, by omega⟩))
          (fun s => vb (ix3 0 s ⟨128 + c.val, by omega⟩)) := by
  unfold k0_pay31
  dsimp only
  generalize hA : concatenate S256x1792 1 _ _ = A
  have ha : ∀ s : Fin 1792, A (ix2 r s) = if s.val ≤ 1536 + r.val then (∑ d : Fin 128, q (ix3 0 r d) * k (ix3 0 s d)) - f (ix4 0 0 0 s) else ⊥ := by
    intro s
    rw [← hA]
    pointwise [k0_pay9, k0_pay13, k0_pay12]
    by_cases hs : s.val < 1536
    · rw [dif_pos hs, if_pos (by omega)]
    · have e : 1536 + (s.val - 1536) = s.val := by omega
      rw [dif_neg hs, select_sle _ _ (by omega) (by omega)]
      simp only [e, Fin.eta, ninf]
      refine if_congr (by omega) rfl rfl
  pointwise [k0_pay32, k0_pay27, rowOut]
  simp only [ninf, ha]
  rfl

set_option maxHeartbeats 4000000 in
/-- Head 1 of the pair, rows 1792 to 2047 (keys 0 to 2047). -/
theorem piece_3_1_1 (q : FVec Ideal S1x256x128 .bf16) (k : FVec Ideal S1x2048x128 .bf16) (f : FVec Ideal S1x1x1x2048 .f32)
    (fq : FVec Ideal S1x1x1x512 .f32) (vb : FVec Ideal S1x2048x256 .bf16) (r : Fin 256) (c : Fin 128) :
    k0_pay33 (F := Ideal) k0_pay9 (k0_pay14 q k f) (k0_pay27 fq) vb (ix3 0 r c)
      = rowOut (fun s : Fin 2048 => if s.val ≤ 1792 + r.val then (∑ d : Fin 128, q (ix3 0 r d) * k (ix3 0 s d)) - f (ix4 0 0 0 s) else ⊥)
          (fq (ix4 0 0 0 ⟨256 + r.val, by omega⟩)) (fun s => vb (ix3 0 s ⟨c.val, by omega⟩))
          (fun s => vb (ix3 0 s ⟨128 + c.val, by omega⟩)) := by
  unfold k0_pay33
  dsimp only
  generalize hA : concatenate S256x2048 1 _ _ = A
  have ha : ∀ s : Fin 2048, A (ix2 r s) = if s.val ≤ 1792 + r.val then (∑ d : Fin 128, q (ix3 0 r d) * k (ix3 0 s d)) - f (ix4 0 0 0 s) else ⊥ := by
    intro s
    rw [← hA]
    pointwise [k0_pay9, k0_pay14]
    by_cases hs : s.val < 1536
    · rw [dif_pos hs, if_pos (by omega)]
    · have e : 1536 + (s.val - 1536) = s.val := by omega
      rw [dif_neg hs, select_sle _ _ (by omega) (by omega)]
      simp only [e, Fin.eta, ninf]
      refine if_congr (by omega) rfl rfl
  pointwise [k0_pay27, rowOut]
  simp only [ninf, ha]
  rfl

end Cert.AttnIdeal.Soft

end
-- ==== Proof.AttnScratch.lean ====
/- The attention kernel's scratch buffer: values beside ones. -/
module

public import proofs.«01_k».proof.Proof.Gen.AttnIdeal.Value
public import proofs.«01_k».proof.Proof.SoftRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

/-- The scratch buffer after its four stores, as written: two heads' value columns, each followed by 128 columns of ones. -/
abbrev scratchPieces (X : FVec Ideal S1x2048x256 .bf16) : List (View.Piece (Elt Ideal) S2x2048x256 .bf16) :=
  [⟨Rect.unit (s := S2x2048x256) ![1, 0, 128] S1x2048x128.size inb_S2x2048x256_S1x2048x128_1_0_128,
      k0_pay8 (F := Ideal) (Scalar.ofBits .bf16 0x3F80#16)⟩,
    ⟨Rect.unit (s := S2x2048x256) ![1, 0, 0] S1x2048x128.size inb_S2x2048x256_S1x2048x128_1_0_0,
      k0_pay7 (F := Ideal) (View.ld X (Rect.unit (s := S1x2048x256) ![0, 0, 128] S1x2048x128.size inb_S1x2048x256_S1x2048x128_0_0_128))⟩,
    ⟨Rect.unit (s := S2x2048x256) ![0, 0, 128] S1x2048x128.size inb_S2x2048x256_S1x2048x128_0_0_128, k0_pay6 (F := Ideal)⟩,
    ⟨Rect.unit (s := S2x2048x256) ![0, 0, 0] S1x2048x128.size inb_S2x2048x256_S1x2048x128_0_0_0,
      k0_pay5 (F := Ideal) (View.ld X (Rect.unit (s := S1x2048x256) ![0, 0, 0] S1x2048x128.size inb_S1x2048x256_S1x2048x128_0_0_0))⟩]

/-- A value column of the scratch buffer. -/
theorem scratch_value (X : FVec Ideal S1x2048x256 .bf16) (y : S2x2048x256.Idx) (s : Fin 2048) (d : Fin 256) (h1 : (y 1).val = s.val)
    (h2 : (y 2).val < 128) (hd : d.val = 128 * (y 0).val + (y 2).val) :
    View.canon (scratchPieces X) y = X (ix3 0 s d) := by
  have h0 : (y 0).val < 2 := (y 0).isLt
  unfold scratchPieces
  canon_tiles z h
  case piece0 => omega
  case piece2 => omega
  case piece1 =>
    idx_vars z
    obtain rfl : z0 = 0 := Subsingleton.elim _ _
    pointwise [k0_pay7]
    congr 1
    blk_ext []
  case piece3 =>
    idx_vars z
    obtain rfl : z0 = 0 := Subsingleton.elim _ _
    pointwise [k0_pay5]
    congr 1
    blk_ext []

/-- A column of ones of the scratch buffer. -/
theorem scratch_one (X : FVec Ideal S1x2048x256 .bf16) (y : S2x2048x256.Idx) (h2 : 128 ≤ (y 2).val) :
    View.canon (scratchPieces X) y = (1 : EReal) := by
  unfold scratchPieces
  canon_tiles z h
  case piece1 => omega
  case piece3 => omega
  case piece0 =>
    idx_vars z
    pointwise [k0_pay8]
  case piece2 =>
    idx_vars z
    pointwise [k0_pay6]

end Cert.AttnIdeal.Soft

end
-- ==== Proof.AttnValue.lean ====
/- The attention kernel's output array: causal softmax attention of the arguments, index by index. -/
module

public import proofs.«01_k».proof.Proof.Gen.AttnIdeal.Value
public import proofs.«01_k».proof.Proof.SoftRow
public import proofs.«01_k».proof.Proof.AttnBlock0
public import proofs.«01_k».proof.Proof.AttnBlock1
public import proofs.«01_k».proof.Proof.AttnBlock2
public import proofs.«01_k».proof.Proof.AttnBlock3
public import proofs.«01_k».proof.Proof.AttnScratch
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Soft

open Cert.AttnIdeal Cert.AttnIdeal.Gen Cert.SoftRow

/-- The attention logit of query row `t` and key row `s`, base two, without the query row's own bias. -/
def logit (q : FVec Ideal S8x2048x3072 .bf16) (fr : FVec Ideal S8x8x2048 .f32) (b h : Fin 8) (t s : Fin 2048) : ℝ :=
  (∑ d : Fin 128, (q (ix3 b t ⟨128 * h.val + d.val, by omega⟩) : EReal).toReal
    * (q (ix3 b s ⟨1024 + 128 * h.val + d.val, by omega⟩) : EReal).toReal) - (fr (ix3 b h s) : EReal).toReal

/-- Entry `(b, t, 128 h + d)` of the attention output. -/
def attendedAt (q : FVec Ideal S8x2048x3072 .bf16) (fr : FVec Ideal S8x8x2048 .f32) (b : Fin 8) (t : Fin 2048) (h : Fin 8)
    (d : Fin 128) : EReal :=
  soft (logit q fr b h t) t.val (fun s => q (ix3 b s ⟨2048 + 128 * h.val + d.val, by omega⟩))

/-- The attention output, index by index. -/
def attended (q : FVec Ideal S8x2048x3072 .bf16) (fr : FVec Ideal S8x8x2048 .f32) : FVec Ideal S8x2048x1024 .bf16 := fun j =>
  attendedAt q fr ⟨(j 0).val, (j 0).isLt⟩ ⟨(j 1).val, (j 1).isLt⟩
    ⟨(j 2).val / 128, by have : (j 2).val < 1024 := (j 2).isLt; omega⟩ ⟨(j 2).val % 128, by omega⟩

/-- The two arguments the softmax depends on hold finite numbers: the query and key columns, and the biases. -/
structure Finite (q : FVec Ideal S8x2048x3072 .bf16) (fr : FVec Ideal S8x8x2048 .f32) : Prop where
  qk : ∀ (b : Fin 8) (t : Fin 2048) (d : Fin 3072), d.val < 2048 → (q (ix3 b t d) : EReal) ≠ ⊤ ∧ (q (ix3 b t d) : EReal) ≠ ⊥
  fr : ∀ (b h : Fin 8) (t : Fin 2048), (fr (ix3 b h t) : EReal) ≠ ⊤ ∧ (fr (ix3 b h t) : EReal) ≠ ⊥

/-- For finite arguments the product row minus the key's bias is the real logit. -/
theorem logit_coe {q : FVec Ideal S8x2048x3072 .bf16} {fr : FVec Ideal S8x8x2048 .f32} (fin : Finite q fr) (b h : Fin 8)
    (t s : Fin 2048) :
    (∑ d : Fin 128, (q (ix3 b t ⟨128 * h.val + d.val, by omega⟩) : EReal) * q (ix3 b s ⟨1024 + 128 * h.val + d.val, by omega⟩))
      - fr (ix3 b h s) = ((logit q fr b h t s : ℝ) : EReal) := by
  unfold logit
  rw [EReal.coe_sub, coe_sum, EReal.coe_toReal (fin.fr b h s).1 (fin.fr b h s).2]
  congr 1
  refine Finset.sum_congr rfl fun d _ => ?_
  have h1 := fin.qk b t ⟨128 * h.val + d.val, by omega⟩ (by show 128 * h.val + d.val < 2048; omega)
  have h2 := fin.qk b s ⟨1024 + 128 * h.val + d.val, by omega⟩ (by show 1024 + 128 * h.val + d.val < 2048; omega)
  rw [EReal.coe_mul, EReal.coe_toReal h1.1 h1.2, EReal.coe_toReal h2.1 h2.2]

/-- A row of prefix attention over blocks that hold the arguments' entries is the row of the attention output. -/
theorem row_eq {q : FVec Ideal S8x2048x3072 .bf16} {fr : FVec Ideal S8x8x2048 .f32} (fin : Finite q fr) {n : ℕ} (hn : n ≤ 2048)
    (b h : Fin 8) (t : Fin 2048) (d : Fin 128) (le : ℕ) (hle : le = t.val) (ht : t.val < n) (v w : Fin n → EReal)
    (qd : Fin 128 → EReal) (kd : Fin n → Fin 128 → EReal) (fs : Fin n → EReal) (F : EReal)
    (hq : ∀ x, qd x = q (ix3 b t ⟨128 * h.val + x.val, by omega⟩))
    (hk : ∀ s x, kd s x = q (ix3 b ⟨s.val, by omega⟩ ⟨1024 + 128 * h.val + x.val, by omega⟩))
    (hf : ∀ s, fs s = fr (ix3 b h ⟨s.val, by omega⟩)) (hF : F = fr (ix3 b h t))
    (hv : ∀ s, v s = q (ix3 b ⟨s.val, by omega⟩ ⟨2048 + 128 * h.val + d.val, by omega⟩)) (hw : ∀ s, w s = 1) :
    rowOut (fun s : Fin n => if s.val ≤ le then (∑ x, qd x * kd s x) - fs s else ⊥) F v w = attendedAt q fr b t h d := by
  unfold attendedAt
  refine rowOut_eq hn ht (logit q fr b h t) (fr (ix3 b h t) : EReal).toReal _ _ v w F ?_ (fun s => ?_) hv hw
  · rw [hF, EReal.coe_toReal (fin.fr b h t).1 (fin.fr b h t).2]
  · subst hle
    refine if_congr Iff.rfl ?_ rfl
    rw [← logit_coe fin, hf]
    congr 1
    exact Finset.sum_congr rfl fun x _ => by rw [hq, hk]; rfl

/-- The attention output at an array index of known coordinates. -/
theorem attended_at (q : FVec Ideal S8x2048x3072 .bf16) (fr : FVec Ideal S8x8x2048 .f32) (j : S8x2048x1024.Idx) (b : Fin 8)
    (t : Fin 2048) (h : Fin 8) (d : Fin 128) (h0 : (j 0).val = b.val) (h1 : (j 1).val = t.val)
    (h2 : (j 2).val = 128 * h.val + d.val) : attended q fr j = attendedAt q fr b t h d := by
  unfold attended
  congr 1
  · exact Fin.ext h0
  · exact Fin.ext h1
  · exact Fin.ext (by simp only [h2]; omega)
  · exact Fin.ext (by simp only [h2]; omega)

variable (m : (ℓ : Loc nD τ sig) → Buf (Elt Ideal) ℓ)

/-- The block each window holds at grid point `t`: batch `t / 4`, head pair `t % 4`. -/
theorem idx : ∀ t : Fin cfg0.N, win0_0.index t = ![t.val / 4, 0, t.val % 4] ∧ win0_1.index t = ![t.val / 4, 0, 4 + t.val % 4]
    ∧ win0_2.index t = ![t.val / 4, 0, 8 + t.val % 4] ∧ win0_3.index t = ![t.val / 4, t.val % 4, 0, 0]
    ∧ win0_4.index t = ![t.val, 0] ∧ win0_5.index t = ![t.val, 0] ∧ win0_6.index t = ![t.val, 0]
    ∧ win0_7.index t = ![t.val / 4, 0, t.val % 4]
    ∧ win0_8.index t = ![t.val, 0] ∧ win0_9.index t = ![t.val, 0] ∧ win0_10.index t = ![t.val, 0] :=
  (by decide +kernel : ∀ t : Fin grid0.N, _)

/-- The first weight's copy. -/
theorem final8 (c : Dev nD) : (dats m 0 c).arrAt 8 cfg0.N = fun j => m ((c : Thread nD τ).loc main_arg2) j := by
  refine (dats m 0 c).arrAt_eq_of_covers 8 _ (by decide +kernel) fun t _ y => ?_
  blk_simp; rw [after0_8]; unfold Gen.outsAt0; frame_out
  pointwise [k0_pay2]
  blk_point [iblk, V, idx t]

/-- The second weight's copy. -/
theorem final9 (c : Dev nD) : (dats m 0 c).arrAt 9 cfg0.N = fun j => m ((c : Thread nD τ).loc main_arg3) j := by
  refine (dats m 0 c).arrAt_eq_of_covers 9 _ (by decide +kernel) fun t _ y => ?_
  blk_simp; rw [after0_9]; unfold Gen.outsAt0; frame_out
  pointwise [k0_pay3]
  blk_point [iblk, V, idx t]

/-- The third weight's copy. -/
theorem final10 (c : Dev nD) : (dats m 0 c).arrAt 10 cfg0.N = fun j => m ((c : Thread nD τ).loc main_arg4) j := by
  refine (dats m 0 c).arrAt_eq_of_covers 10 _ (by decide +kernel) fun t _ y => ?_
  blk_simp; rw [after0_10]; unfold Gen.outsAt0; frame_out
  pointwise [k0_pay4]
  blk_point [iblk, V, idx t]

/-- A stretch of a row of the bias block, read at an index. -/
theorem ld_bias (X : FVec Ideal S1x1x2x2048 .f32) {n : ℕ} (o h : ℕ) (inb) (x : Fin n) (k : Fin 2048) (hh : h < 2) (hk : o + x.val = k.val) :
    View.ld (e' := .f32) (Val := Elt Ideal) X (Rect.unit (s := S1x1x2x2048) ![0, 0, h, o] ![1, 1, 1, n] inb) (ix4 0 0 0 x) = X (ix4 0 0 ⟨h, hh⟩ k) := by
  refine congrArg X (funext fun a => Fin.ext ?_)
  match a with
  | ⟨0, _⟩ => rfl
  | ⟨1, _⟩ => rfl
  | ⟨2, _⟩ => rfl
  | ⟨3, _⟩ => show o + 1 * x.val = k.val; omega

/-- The bias window's block: the pair's two rows of biases. -/
theorem bias (c : Dev nD) (t : Fin cfg0.N) (h : Fin 2) (s : Fin 2048) (ht : t.val < 32) :
    iblk m c 3 t (ix4 0 0 h s) = m ((c : Thread nD τ).loc main_arg1) (ix3 ⟨t.val / 4, by omega⟩ ⟨t.val % 4 * 2 + h.val, by omega⟩ s) := by
  have e : iblk m c 3 t (ix4 0 0 h s) = V m c main_v0 (ix4 ⟨t.val / 4, by omega⟩ ⟨t.val % 4, by omega⟩ h s) := by
    blk_ext [iblk, idx t]
  refine e.trans ?_
  entry_read
  pointwise

set_option maxHeartbeats 8000000 in
/-- The attention output array. -/
theorem final7 (c : Dev nD) (fin : Finite (m ((c : Thread nD τ).loc main_arg0)) (m ((c : Thread nD τ).loc main_arg1))) :
    (dats m 0 c).arrAt 7 cfg0.N = attended (m ((c : Thread nD τ).loc main_arg0)) (m ((c : Thread nD τ).loc main_arg1)) := by
  refine (dats m 0 c).arrAt_eq_of_covers 7 _ (by decide +kernel) fun t _ y => ?_
  blk_simp; rw [after0_7]; unfold Gen.outsAt0; frame_out
  have ht : t.val < 32 := t.isLt
  canon_tiles x h
  case piece0 =>
    idx_vars x
    obtain rfl : x0 = 0 := Subsingleton.elim _ _
    refine (piece_0_1_1 _ _ _ _ _ x1 x2).trans ?_
    refine (row_eq fin (by norm_num) ⟨t.val / 4, by omega⟩ ⟨t.val % 4 * 2 + 1, by omega⟩ ⟨256 + x1.val, by omega⟩ x2 _ rfl
      (by show _ < 512; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 0 1 _ ⟨256 + x1.val, by omega⟩ ⟨256 + x1.val, by omega⟩ (by decide) (by show 0 + (256 + x1.val) = 256 + x1.val; omega)).trans (bias m c t 1 ⟨256 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece1 =>
    idx_vars x
    obtain rfl : x0 = 0 := Subsingleton.elim _ _
    refine (piece_0_1_0 _ _ _ _ _ x1 x2).trans ?_
    refine (row_eq fin (by norm_num) ⟨t.val / 4, by omega⟩ ⟨t.val % 4 * 2 + 1, by omega⟩ ⟨0 + x1.val, by omega⟩ x2 _ (by simp)
      (by show _ < 256; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 0 1 _ ⟨x1.val, by omega⟩ ⟨0 + x1.val, by omega⟩ (by decide) (by show 0 + x1.val = 0 + x1.val; rfl)).trans (bias m c t 1 ⟨0 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece2 =>
    idx_vars x
    obtain rfl : x0 = 0 := Subsingleton.elim _ _
    refine (piece_0_0_1 _ _ _ _ _ x1 x2).trans ?_
    refine (row_eq fin (by norm_num) ⟨t.val / 4, by omega⟩ ⟨t.val % 4 * 2 + 0, by omega⟩ ⟨256 + x1.val, by omega⟩ x2 _ rfl
      (by show _ < 512; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 0 0 _ ⟨256 + x1.val, by omega⟩ ⟨256 + x1.val, by omega⟩ (by decide) (by show 0 + (256 + x1.val) = 256 + x1.val; omega)).trans (bias m c t 0 ⟨256 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece3 =>
    idx_vars x
    obtain rfl : x0 = 0 := Subsingleton.elim _ _
    refine (piece_0_0_0 _ _ _ _ _ x1 x2).trans ?_
    refine (row_eq fin (by norm_num) ⟨t.val / 4, by omega⟩ ⟨t.val % 4 * 2 + 0, by omega⟩ ⟨0 + x1.val, by omega⟩ x2 _ (by simp)
      (by show _ < 256; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 0 0 _ ⟨x1.val, by omega⟩ ⟨0 + x1.val, by omega⟩ (by decide) (by show 0 + x1.val = 0 + x1.val; rfl)).trans (bias m c t 0 ⟨0 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece4 =>
    idx_vars x
    obtain rfl : x0 = 0 := Subsingleton.elim _ _
    refine (piece_1_1_1 _ _ _ _ _ x1 x2).trans ?_
    refine (row_eq fin (by norm_num) ⟨t.val / 4, by omega⟩ ⟨t.val % 4 * 2 + 1, by omega⟩ ⟨768 + x1.val, by omega⟩ x2 _ rfl
      (by show _ < 1024; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 512 1 _ ⟨256 + x1.val, by omega⟩ ⟨768 + x1.val, by omega⟩ (by decide) (by show 512 + (256 + x1.val) = 768 + x1.val; omega)).trans (bias m c t 1 ⟨768 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece5 =>
    idx_vars x
    obtain rfl : x0 = 0 := Subsingleton.elim _ _
    refine (piece_1_1_0 _ _ _ _ _ x1 x2).trans ?_
    refine (row_eq fin (by norm_num) ⟨t.val / 4, by omega⟩ ⟨t.val % 4 * 2 + 1, by omega⟩ ⟨512 + x1.val, by omega⟩ x2 _ rfl
      (by show _ < 768; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 512 1 _ ⟨x1.val, by omega⟩ ⟨512 + x1.val, by omega⟩ (by decide) (by show 512 + x1.val = 512 + x1.val; rfl)).trans (bias m c t 1 ⟨512 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece6 =>
    idx_vars x
    obtain rfl : x0 = 0 := Subsingleton.elim _ _
    refine (piece_1_0_1 _ _ _ _ _ x1 x2).trans ?_
    refine (row_eq fin (by norm_num) ⟨t.val / 4, by omega⟩ ⟨t.val % 4 * 2 + 0, by omega⟩ ⟨768 + x1.val, by omega⟩ x2 _ rfl
      (by show _ < 1024; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 512 0 _ ⟨256 + x1.val, by omega⟩ ⟨768 + x1.val, by omega⟩ (by decide) (by show 512 + (256 + x1.val) = 768 + x1.val; omega)).trans (bias m c t 0 ⟨768 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece7 =>
    idx_vars x
    obtain rfl : x0 = 0 := Subsingleton.elim _ _
    refine (piece_1_0_0 _ _ _ _ _ x1 x2).trans ?_
    refine (row_eq fin (by norm_num) ⟨t.val / 4, by omega⟩ ⟨t.val % 4 * 2 + 0, by omega⟩ ⟨512 + x1.val, by omega⟩ x2 _ rfl
      (by show _ < 768; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 512 0 _ ⟨x1.val, by omega⟩ ⟨512 + x1.val, by omega⟩ (by decide) (by show 512 + x1.val = 512 + x1.val; rfl)).trans (bias m c t 0 ⟨512 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece8 =>
    idx_vars x
    obtain rfl : x0 = 0 := Subsingleton.elim _ _
    refine (piece_2_1_1 _ _ _ _ _ x1 x2).trans ?_
    refine (row_eq fin (by norm_num) ⟨t.val / 4, by omega⟩ ⟨t.val % 4 * 2 + 1, by omega⟩ ⟨1280 + x1.val, by omega⟩ x2 _ rfl
      (by show _ < 1536; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 1024 1 _ ⟨256 + x1.val, by omega⟩ ⟨1280 + x1.val, by omega⟩ (by decide) (by show 1024 + (256 + x1.val) = 1280 + x1.val; omega)).trans (bias m c t 1 ⟨1280 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece9 =>
    idx_vars x
    obtain rfl : x0 = 0 := Subsingleton.elim _ _
    refine (piece_2_1_0 _ _ _ _ _ x1 x2).trans ?_
    refine (row_eq fin (by norm_num) ⟨t.val / 4, by omega⟩ ⟨t.val % 4 * 2 + 1, by omega⟩ ⟨1024 + x1.val, by omega⟩ x2 _ rfl
      (by show _ < 1280; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 1024 1 _ ⟨x1.val, by omega⟩ ⟨1024 + x1.val, by omega⟩ (by decide) (by show 1024 + x1.val = 1024 + x1.val; rfl)).trans (bias m c t 1 ⟨1024 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece10 =>
    idx_vars x
    obtain rfl : x0 = 0 := Subsingleton.elim _ _
    refine (piece_2_0_1 _ _ _ _ _ x1 x2).trans ?_
    refine (row_eq fin (by norm_num) ⟨t.val / 4, by omega⟩ ⟨t.val % 4 * 2 + 0, by omega⟩ ⟨1280 + x1.val, by omega⟩ x2 _ rfl
      (by show _ < 1536; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 1024 0 _ ⟨256 + x1.val, by omega⟩ ⟨1280 + x1.val, by omega⟩ (by decide) (by show 1024 + (256 + x1.val) = 1280 + x1.val; omega)).trans (bias m c t 0 ⟨1280 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece11 =>
    idx_vars x
    obtain rfl : x0 = 0 := Subsingleton.elim _ _
    refine (piece_2_0_0 _ _ _ _ _ x1 x2).trans ?_
    refine (row_eq fin (by norm_num) ⟨t.val / 4, by omega⟩ ⟨t.val % 4 * 2 + 0, by omega⟩ ⟨1024 + x1.val, by omega⟩ x2 _ rfl
      (by show _ < 1280; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 1024 0 _ ⟨x1.val, by omega⟩ ⟨1024 + x1.val, by omega⟩ (by decide) (by show 1024 + x1.val = 1024 + x1.val; rfl)).trans (bias m c t 0 ⟨1024 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece12 =>
    idx_vars x
    obtain rfl : x0 = 0 := Subsingleton.elim _ _
    refine (piece_3_1_1 _ _ _ _ _ x1 x2).trans ?_
    refine (row_eq fin (by norm_num) ⟨t.val / 4, by omega⟩ ⟨t.val % 4 * 2 + 1, by omega⟩ ⟨1792 + x1.val, by omega⟩ x2 _ rfl
      (by show _ < 2048; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 1536 1 _ ⟨256 + x1.val, by omega⟩ ⟨1792 + x1.val, by omega⟩ (by decide) (by show 1536 + (256 + x1.val) = 1792 + x1.val; omega)).trans (bias m c t 1 ⟨1792 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece13 =>
    idx_vars x
    obtain rfl : x0 = 0 := Subsingleton.elim _ _
    refine (piece_3_1_0 _ _ _ _ _ x1 x2).trans ?_
    refine (row_eq fin (by norm_num) ⟨t.val / 4, by omega⟩ ⟨t.val % 4 * 2 + 1, by omega⟩ ⟨1536 + x1.val, by omega⟩ x2 _ rfl
      (by show _ < 1792; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 1 _ s ⟨s.val, by omega⟩ (by decide) (Nat.zero_add _)).trans (bias m c t 1 ⟨s.val, by omega⟩ ht)
    · exact (ld_bias (iblk m c 3 t) 1536 1 _ ⟨x1.val, by omega⟩ ⟨1536 + x1.val, by omega⟩ (by decide) (by show 1536 + x1.val = 1536 + x1.val; rfl)).trans (bias m c t 1 ⟨1536 + x1.val, by omega⟩ ht)
    · intro s
      refine (congrFun (View.readCov_eq_canon' _ _ _) _).trans ?_
      refine (scratch_value (iblk m c 2 t) _ ⟨s.val, by omega⟩ ⟨128 + x2.val, by omega⟩ ?_ ?_ ?_).trans ?_
      · show 0 + 1 * s.val = s.val; omega
      · show 0 + 1 * x2.val < 128; omega
      · show 128 + x2.val = 128 * (1 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece14 =>
    idx_vars x
    obtain rfl : x0 = 0 := Subsingleton.elim _ _
    refine (piece_3_0_1 _ _ _ _ _ x1 x2).trans ?_
    refine (row_eq fin (by norm_num) ⟨t.val / 4, by omega⟩ ⟨t.val % 4 * 2 + 0, by omega⟩ ⟨1792 + x1.val, by omega⟩ x2 _ rfl
      (by show _ < 2048; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 1536 0 _ ⟨256 + x1.val, by omega⟩ ⟨1792 + x1.val, by omega⟩ (by decide) (by show 1536 + (256 + x1.val) = 1792 + x1.val; omega)).trans (bias m c t 0 ⟨1792 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega
  case piece15 =>
    idx_vars x
    obtain rfl : x0 = 0 := Subsingleton.elim _ _
    refine (piece_3_0_0 _ _ _ _ _ x1 x2).trans ?_
    refine (row_eq fin (by norm_num) ⟨t.val / 4, by omega⟩ ⟨t.val % 4 * 2 + 0, by omega⟩ ⟨1536 + x1.val, by omega⟩ x2 _ rfl
      (by show _ < 1792; simp only []; omega) _ _ _ _ _ _ ?_ ?_ ?_ ?_ ?_ ?_).trans (attended_at _ _ _ _ _ _ _ ?_ ?_ ?_).symm
    · intro x; blk_point [iblk, V, idx t]
    · intro s x; blk_point [iblk, V, idx t]
    · intro s; exact (ld_bias (iblk m c 3 t) 0 0 _ s ⟨s.val, by omega⟩ (by decide) (Nat.zero_add _)).trans (bias m c t 0 ⟨s.val, by omega⟩ ht)
    · exact (ld_bias (iblk m c 3 t) 1536 0 _ ⟨x1.val, by omega⟩ ⟨1536 + x1.val, by omega⟩ (by decide) (by show 1536 + x1.val = 1536 + x1.val; rfl)).trans (bias m c t 0 ⟨1536 + x1.val, by omega⟩ ht)
    · intro s
      refine (congrFun (View.readCov_eq_canon' _ _ _) _).trans ?_
      refine (scratch_value (iblk m c 2 t) _ ⟨s.val, by omega⟩ ⟨0 + x2.val, by omega⟩ ?_ ?_ ?_).trans ?_
      · show 0 + 1 * s.val = s.val; omega
      · show 0 + 1 * x2.val < 128; omega
      · show 0 + x2.val = 128 * (0 + 1 * 0) + (0 + 1 * x2.val); omega
      · blk_point [iblk, V, idx t]
    · intro s
      refine (congrFun (View.readCov_eq_canon' _ _ _) _).trans ?_
      refine scratch_one (iblk m c 2 t) _ ?_
      show 128 ≤ 0 + 1 * (128 + x2.val); omega
    · blk_simp [idx t]
    · blk_simp [idx t]; simp only []; omega
    · blk_simp [idx t]; simp only []; omega

end Cert.AttnIdeal.Soft

end
-- ==== Proof.FiniteArg.lean ====
/- What a precondition says of one number. -/
module

public import Idealize.ShloMosaic.Lib.Pointwise
public import Idealize.ShloMosaic.Lib.IdealHost

@[expose] public section

noncomputable section

open Idealize.ShloMosaic

namespace Cert.FiniteArg

/-- A number whose magnitude is below infinity is finite. -/
theorem finite_of_lt (x : EReal) (h : (FloatOps.cmpf (F := Ideal) (φ := .f32) .olt (FloatOps.absf (φ := .f32) x) (Ideal.ofBits .f32 0x7F800000#32)) = 1#1) : x ≠ ⊤ ∧ x ≠ ⊥ := by
  have e : Ideal.ofBits .f32 0x7F800000#32 = (⊤ : EReal) := by simp [Ideal.ofBits, Ideal.ieee]
  rw [e] at h
  induction x using EReal.rec with
  | bot => exact absurd h (by simp [FloatOps.cmpf, FloatOps.absf, Ideal.cmp])
  | top => exact absurd h (by simp [FloatOps.cmpf, FloatOps.absf, Ideal.cmp])
  | coe r => exact ⟨EReal.coe_ne_top r, EReal.coe_ne_bot r⟩

end Cert.FiniteArg

end
-- ==== Proof.AttnClaim.lean ====
/- The attention: the kernel and the reference compute the same arrays over the exact numbers. -/
module

public import proofs.«01_k».proof.Proof.Gen.AttnIdeal.Value
public import proofs.«01_k».proof.Proof.Gen.AttnRefIdeal.Run
public import proofs.«01_k».proof.Proof.AttnValue
public import proofs.«01_k».proof.Proof.FiniteArg
public import proofs.«01_k».proof.Defs
public import proofs.«01_k».proof.Proof.Gen.Pre_logits_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRefIdeal.Soft

open Cert.AttnRefIdeal Cert.AttnRefIdeal.Gen Cert.AttnIdeal.Soft Cert.SoftRow Cert.FiniteArg

/-- The reference's masked logits. -/
def masked (a0 : FVec Ideal S8x2048x3072 .bf16) (a1 : FVec Ideal S8x8x2048 .f32) : FVec Ideal S8x8x2048x2048 .f32 :=
  select (broadcastInDim S8x8x2048x2048 ![0, 1, 2, 3] bcast_S1x1x2048x2048_S8x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (mulf (subf (addf (Host.dotGeneral dot_S8x2048x8x128_S8x2048x8x128_S8x8x2048x2048_3_3_1_1_02_02 none (shapeCast _ (extractStridedSlice S8x2048x1024 ![0, 0, 0] (extf .f32 a0 bitsLt_bf16_f32) slices_S8x2048x3072_S8x2048x1024_0_0_0) shapeCasts_S8x2048x1024_S8x2048x8x128) (shapeCast _ (extractStridedSlice S8x2048x1024 ![0, 0, 1024] (extf .f32 a0 bitsLt_bf16_f32) slices_S8x2048x3072_S8x2048x1024_0_0_1024) shapeCasts_S8x2048x1024_S8x2048x8x128)) (broadcastInDim S8x8x2048x2048 ![0, 1, 2, 3] bcast_S8x8x2048x1_S8x8x2048x2048_0_1_2_3 (broadcastInDim S8x8x2048x1 ![0, 1, 2] bcast_S8x8x2048_S8x8x2048x1_0_1_2 a1))) (broadcastInDim S8x8x2048x2048 ![0, 1, 2, 3] bcast_S8x8x1x2048_S8x8x2048x2048_0_1_2_3 (broadcastInDim S8x8x1x2048 ![0, 1, 3] bcast_S8x8x2048_S8x8x1x2048_0_1_3 a1))) (broadcastInDim S8x8x2048x2048 ![] bcast_S_S8x8x2048x2048 (id (Host.log (constant S_ .f32 0x40000000#32))))) (broadcastInDim S8x8x2048x2048 ![] bcast_S_S8x8x2048x2048 (id (constant S_ .f32 0xFF800000#32)))

/-- The greatest logit of each row, from a starting value. -/
def peak (x : FVec Ideal S8x8x2048x2048 .f32) (c : FVec Ideal S_ .f32) : FVec Ideal S8x8x2048 .f32 :=
  Host.reduce FloatOps.maximumf x c reducesTo_S8x8x2048x2048_S8x8x2048_d3 h_S_

/-- The reference's exponentials: each logit less its row's peak. -/
def expd (x : FVec Ideal S8x8x2048x2048 .f32) (w : FVec Ideal S8x8x2048 .f32) (c : FVec Ideal S_ .f32) : FVec Ideal S8x8x2048x2048 .f32 :=
  Host.exp (subf x (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 c) w))))

/-- The reference's weights: each exponential over its row's sum. -/
def shares (e : FVec Ideal S8x8x2048x2048 .f32) : FVec Ideal S8x8x2048x2048 .f32 :=
  Host.divf e (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant S_ .f32 0x00000000#32) reducesTo_S8x8x2048x2048_S8x8x2048_d3 h_S_)))

/-- The reference's product of the weights with the values, laid out as rows. -/
def mixed (p : FVec Ideal S8x8x2048x2048 .f32) (v : FVec Ideal S8x2048x8x128 .f32) : FVec Ideal S8x2048x1024 .bf16 :=
  truncf .bf16 (shapeCast _ (transpose S8x2048x8x128 [0, 3, 1, 2] (Host.dotGeneral dot_S8x2048x8x128_S8x8x2048x2048_S8x8x128x2048_1_3_3_2_02_01 none v p) transposes_S8x8x128x2048_S8x2048x8x128_0_3_1_2) shapeCasts_S8x2048x8x128_S8x2048x1024) bitsLt_bf16_f32

/-- The reference's values, split in heads. -/
def values (a0 : FVec Ideal S8x2048x3072 .bf16) : FVec Ideal S8x2048x8x128 .f32 :=
  shapeCast S8x2048x8x128 (extractStridedSlice S8x2048x1024 ![0, 0, 2048] (extf .f32 a0 bitsLt_bf16_f32) slices_S8x2048x3072_S8x2048x1024_0_0_2048) shapeCasts_S8x2048x1024_S8x2048x8x128

theorem values_at (a0 : FVec Ideal S8x2048x3072 .bf16) (b : Fin 8) (s : Fin 2048) (h : Fin 8) (d : Fin 128) :
    values a0 (ix4 b s h d) = a0 (ix3 b s ⟨2048 + 128 * h.val + d.val, by omega⟩) := by
  pointwise [values]
  congr 2
  exact Fin.ext (by show 2048 + (h.val * 128 + d.val) = 2048 + 128 * h.val + d.val; omega)

theorem ninf32 : Ideal.ofBits FTy.f32 4286578688#32 = ⊥ := by simp [Ideal.ofBits, Ideal.ieee]

/-- Selecting by a comparison of two positions of the sequence. -/
theorem select_sle2 {a b : ℕ} (x y : EReal) (ha : a < 2048) (hb : b < 2048) :
    (Scalar.select (IntOp.cmpi .sle (BitVec.ofNat 32 a) (BitVec.ofNat 32 b)) x y : EReal) = if a ≤ b then x else y := by
  have h : BitVec.sle (BitVec.ofNat 32 a) (BitVec.ofNat 32 b) = decide (a ≤ b) := by
    rw [BitVec.sle_eq_decide, BitVec.toInt_ofNat', BitVec.toInt_ofNat']
    congr 1
    rw [Int.bmod_eq_of_le (by omega) (by omega), Int.bmod_eq_of_le (by omega) (by omega)]
    exact propext (by omega)
  simp only [Scalar.select, IntOp.cmpi, h]
  by_cases hab : a ≤ b <;> simp [hab]

theorem log2_32 : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    norm_num
  rw [h, Ideal.log_coe, if_neg (by norm_num)]

theorem masked_at (a0 : FVec Ideal S8x2048x3072 .bf16) (a1 : FVec Ideal S8x8x2048 .f32) (b h : Fin 8) (t s : Fin 2048) :
    masked a0 a1 (ix4 b h t s) = if s.val ≤ t.val then
      ((∑ d : Fin 128, a0 (ix3 b t ⟨128 * h.val + d.val, by omega⟩) * a0 (ix3 b s ⟨1024 + 128 * h.val + d.val, by omega⟩))
        + a1 (ix3 b h t) - a1 (ix3 b h s)) * ((Real.log 2 : ℝ) : EReal) else ⊥ := by
  pointwise [masked]
  have e1 : id (Host.log (constant (F := Ideal) S_ FTy.f32 1073741824#32)) ix0 = ((Real.log 2 : ℝ) : EReal) := log2_32
  have e2 : id (constant (F := Ideal) S_ FTy.f32 4286578688#32) ix0 = (⊥ : EReal) := ninf32
  rw [e1, e2, select_sle2 _ _ s.isLt t.isLt]
  refine if_congr Iff.rfl (congrArg (fun z => (z + a1 (ix3 b h t) - a1 (ix3 b h s)) * ((Real.log 2 : ℝ) : EReal))
    (Finset.sum_congr rfl fun d _ => ?_)) rfl
  congr 3
  all_goals (refine Fin.ext ?_; simp only []; omega)

theorem peak_at (x : FVec Ideal S8x8x2048x2048 .f32) (c : FVec Ideal S_ .f32) (b h : Fin 8) (t : Fin 2048) :
    peak x c (ix3 b h t) = Finset.univ.fold max (c ix0) fun s => x (ix4 b h t s) := by
  have e : Shape.Idx.first h_S_ = (ix0 : S_.Idx) := funext fun a => a.elim0
  pointwise [peak]
  rw [e]

theorem expd_at (x : FVec Ideal S8x8x2048x2048 .f32) (w : FVec Ideal S8x8x2048 .f32) (c : FVec Ideal S_ .f32) (b h : Fin 8) (t s : Fin 2048) :
    expd x w c (ix4 b h t s) = Ideal.exp (x (ix4 b h t s) - max (c ix0) (w (ix3 b h t))) := by
  pointwise [expd]

theorem shares_at (e : FVec Ideal S8x8x2048x2048 .f32) (b h : Fin 8) (t s : Fin 2048) :
    shares e (ix4 b h t s) = Ideal.div (e (ix4 b h t s)) (0 + ∑ s, e (ix4 b h t s)) := by
  pointwise [shares]

theorem mixed_at (p : FVec Ideal S8x8x2048x2048 .f32) (v : FVec Ideal S8x2048x8x128 .f32) (b : Fin 8)
    (t : Fin 2048) (h : Fin 8) (d : Fin 128) :
    mixed p v (ix3 b t ⟨128 * h.val + d.val, by omega⟩) = ∑ s, v (ix4 b s h d) * p (ix4 b h t s) := by
  pointwise [mixed]

/-- The reference's attention output. -/
def whole (a0 : FVec Ideal S8x2048x3072 .bf16) (a1 : FVec Ideal S8x8x2048 .f32) : FVec Ideal S8x2048x1024 .bf16 :=
  mixed (shares (expd (masked a0 a1) (peak (masked a0 a1) (constant S_ .f32 0xFF800000#32)) (constant S_ .f32 0xFF800000#32))) (values a0)

/-- For finite arguments the reference's attention output is the softmax attention of the arguments. -/
theorem whole_eq {a0 : FVec Ideal S8x2048x3072 .bf16} {a1 : FVec Ideal S8x8x2048 .f32} (fin : Finite a0 a1) :
    whole a0 a1 = attended a0 a1 := by
  funext j
  idx_vars j
  obtain ⟨h, d, rfl⟩ : ∃ (h : Fin 8) (d : Fin 128), j2 = ⟨128 * h.val + d.val, by omega⟩ :=
    ⟨⟨j2.val / 128, by omega⟩, ⟨j2.val % 128, by omega⟩, Fin.ext (by simp only []; omega)⟩
  rw [attended_at _ _ _ j0 j1 h d rfl rfl rfl, attendedAt]
  have hc : constant (F := Ideal) S_ .f32 0xFF800000#32 ix0 = (⊥ : EReal) := ninf32
  refine Eq.trans ?_ (ref_row j1.isLt (logit a0 a1 j0 h j1) (a1 (ix3 j0 h j1) : EReal).toReal _
    (fun s => masked a0 a1 (ix4 j0 h j1 s)) fun s => ?_)
  · unfold whole
    rw [mixed_at]
    refine Finset.sum_congr rfl fun s _ => ?_
    rw [values_at, shares_at]
    simp only [expd_at, peak_at, hc]
  · rw [masked_at]
    refine if_congr Iff.rfl ?_ rfl
    rw [sub_eq_add_neg, add_right_comm, ← sub_eq_add_neg, logit_coe fin, EReal.coe_mul, EReal.coe_add,
      EReal.coe_toReal (fin.fr j0 h j1).1 (fin.fr j0 h j1).2]

/-- The precondition's two truths make the arguments finite. -/
theorem finite_of (a0 : FVec Ideal S8x2048x3072 .bf16) (a1 : FVec Ideal S8x8x2048 .f32) (a2 : FVec Ideal S2048x8192 .f32)
    (a3 : FVec Ideal S8192x2048 .f32) (a4 : FVec Ideal S2048x2048 .f32)
    (h1 : (Cert.Pre_logits_finite.fn (F := Ideal) a0 a1 a2 a3 a4).1 = fun _ => 1#1)
    (h2 : (Cert.Pre_logits_finite.fn (F := Ideal) a0 a1 a2 a3 a4).2 = fun _ => 1#1) : Finite a0 a1 := by
  refine ⟨fun b t d hd => ?_, fun b h t => ?_⟩
  · have e := congrFun h1 (ix3 b t ⟨d.val, hd⟩)
    refine finite_of_lt _ (Eq.trans ?_ e)
    pointwise [Cert.Pre_logits_finite.fn]
  · have e := congrFun h2 (ix3 b h t)
    refine finite_of_lt _ (Eq.trans ?_ e)
    pointwise [Cert.Pre_logits_finite.fn]

end Cert.AttnRefIdeal.Soft

namespace Cert.AttnIdeal.Soft

open Cert.AttnIdeal Cert.AttnIdeal.Gen

/-- From agreeing finite arguments the kernel and the reference leave equal arrays. -/
theorem algebraic : Cert.algebraic_AttnIdeal_AttnRefIdeal_pre_logits_finite := by
  pair_intro
  · run_from Cert.AttnIdeal.Value.run_blocks m g
  · run_from Cert.AttnRefIdeal.Value.run m' g'
    · have fin := Cert.AttnRefIdeal.Soft.finite_of _ _ _ _ _ (hpre c).1 (hpre c).2
      rw [final7 m c fin, ← Cert.AttnRefIdeal.Soft.whole_eq fin, ← (hagree c).1, ← (hagree c).2.1]
      unfold Cert.AttnRefIdeal.Value.res_main_v40
      rfl
    · exact (final8 m c).symm
    · exact (final9 m c).symm
    · exact (final10 m c).symm

end Cert.AttnIdeal.Soft

end
-- ==== Proof.FfnRow.lean ====
/- One row of the feed-forward over the extended reals, as pure arithmetic: the normalised and modulated row is real
   whatever the row holds, so the products that follow are real sums. -/
module

public import proofs.«01_k».proof.Proof.SoftRow
public import Idealize.ShloMosaic.Lib.Pointwise
public import Idealize.ShloMosaic.Lib.IdealHost

@[expose] public section

noncomputable section

namespace Cert.FfnRow

open Idealize.ShloMosaic Cert.SoftRow

/-- One row, normalised by the root of its mean square and modulated: gain `g`, scale `s`, shift `h`. -/
def normed (x g s h : Fin 2048 → EReal) (d : Fin 2048) : EReal :=
  x d * Ideal.rsqrt (Ideal.div (∑ e, x e * x e) (Ideal.ofBits .f32 0x45000000#32) + Ideal.ofBits .f32 0x358637BD#32)
    * (g d * (1 + s d)) + h d

/-- The square of the positive part of a hidden unit: row `h` times column `w`. -/
def hiddenUnit (h w : Fin 2048 → EReal) : EReal := max (∑ e, h e * w e) 0 * max (∑ e, h e * w e) 0

/-- One step at one entry: what was there, plus the gate times the step's share of the second product. -/
def stepped (o g : EReal) (H : Fin 2048 → EReal) (w1 : Fin 2048 → Fin 1024 → EReal) (w2 : Fin 1024 → EReal) : EReal :=
  o + g * ∑ k : Fin 1024, hiddenUnit H (fun e => w1 e k) * w2 k

/-- A finite extended real is a real. -/
theorem real_of {x : EReal} (h : x ≠ ⊤ ∧ x ≠ ⊥) : ∃ r : ℝ, x = r := ⟨x.toReal, (EReal.coe_toReal h.1 h.2).symm⟩

theorem count32 : Ideal.ofBits .f32 0x45000000#32 = ((2048 : ℝ) : EReal) := by
  simp [Ideal.ofBits, Ideal.ieee]
  rw [← EReal.coe_mul]
  norm_num

theorem eps32 : ∃ ε : ℝ, 0 < ε ∧ Ideal.ofBits .f32 0x358637BD#32 = (ε : EReal) := by
  simp [Ideal.ofBits, Ideal.ieee]
  rw [← EReal.coe_mul]
  exact ⟨_, by norm_num, rfl⟩

theorem mul_self_nonneg' (x : EReal) : 0 ≤ x * x := by
  induction x using EReal.rec with
  | bot => simp
  | top => simp
  | coe r => rw [← EReal.coe_mul]; exact_mod_cast mul_self_nonneg r

/-- A row divided by the root of its mean square is real, even when the row has infinite entries: the root is then
    infinite and the row becomes zero. -/
theorem scaled_real (x : Fin 2048 → EReal) (d : Fin 2048) : ∃ r : ℝ, x d * Ideal.rsqrt
    (Ideal.div (∑ e, x e * x e) (Ideal.ofBits .f32 0x45000000#32) + Ideal.ofBits .f32 0x358637BD#32) = r := by
  obtain ⟨ε, hε, e⟩ := eps32
  rw [count32, e]
  by_cases hf : ∀ i, x i ≠ ⊤ ∧ x i ≠ ⊥
  · choose y hy using fun i => real_of (hf i)
    have hs : ∑ i, x i * x i = ((∑ i, y i * y i : ℝ) : EReal) := by
      rw [coe_sum]
      exact Finset.sum_congr rfl fun i _ => by rw [hy i, EReal.coe_mul]
    have h0 : 0 ≤ ∑ i, y i * y i := Finset.sum_nonneg fun i _ => mul_self_nonneg (y i)
    have hp : 0 < (∑ i, y i * y i) * (1 / 2048) + ε := by positivity
    rw [hs, Ideal.div_coe (by norm_num), ← EReal.coe_mul, ← EReal.coe_add, Ideal.rsqrt_coe, if_neg (not_lt.2 hp.le), if_neg hp.ne', hy d, ← EReal.coe_mul]
    exact ⟨_, rfl⟩
  · rw [not_forall] at hf
    obtain ⟨i, hi⟩ := hf
    have hi' : x i * x i = ⊤ := by
      rcases not_and_or.1 hi with h | h
      · rw [not_not.1 h]; rfl
      · rw [not_not.1 h]; rfl
    have hs : ∑ i, x i * x i = ⊤ := by
      rw [← top_le_iff, ← hi']
      exact Finset.single_le_sum (f := fun i => x i * x i) (fun i _ => mul_self_nonneg' (x i)) (Finset.mem_univ i)
    rw [hs]
    have hd : Ideal.div ⊤ ((2048 : ℝ) : EReal) = ⊤ := by
      rw [Ideal.div_coe (by norm_num)]
      exact EReal.top_mul_coe_of_pos (by norm_num)
    rw [hd, EReal.top_add_coe, Ideal.rsqrt_top, mul_zero]
    exact ⟨0, rfl⟩

/-- A normalised and modulated entry is real when its gain, scale and shift are. -/
theorem normed_real (x g s h : Fin 2048 → EReal) (d : Fin 2048) (hg : g d ≠ ⊤ ∧ g d ≠ ⊥) (hs : s d ≠ ⊤ ∧ s d ≠ ⊥)
    (hh : h d ≠ ⊤ ∧ h d ≠ ⊥) : ∃ r : ℝ, normed x g s h d = r := by
  obtain ⟨a, ha⟩ := scaled_real x d
  obtain ⟨b, hb⟩ := real_of hg
  obtain ⟨c, hc⟩ := real_of hs
  obtain ⟨f, hf⟩ := real_of hh
  unfold normed
  rw [ha, hb, hc, hf]
  exact ⟨a * (b * (1 + c)) + f, by push_cast; rfl⟩

/-- A hidden unit's square is real when its row and its column are. -/
theorem hiddenUnit_real (h w : Fin 2048 → EReal) (hh : ∀ e, ∃ r : ℝ, h e = r) (hw : ∀ e, ∃ r : ℝ, w e = r) : ∃ r : ℝ, hiddenUnit h w = r := by
  choose a ha using hh
  choose b hb using hw
  have hs : ∑ e, h e * w e = ((∑ e, a e * b e : ℝ) : EReal) := by
    rw [coe_sum]
    exact Finset.sum_congr rfl fun i _ => by rw [ha i, hb i, EReal.coe_mul]
  unfold hiddenUnit
  rw [hs]
  refine ⟨max (∑ e, a e * b e) 0 * max (∑ e, a e * b e) 0, ?_⟩
  rw [EReal.coe_mul, EReal.coe_strictMono.monotone.map_max, EReal.coe_zero]

/-- A step whose share is real adds to a real multiple of the gate. -/
theorem stepped_coe {o g : EReal} {H : Fin 2048 → EReal} {w1 : Fin 2048 → Fin 1024 → EReal} {w2 : Fin 1024 → EReal} (x : EReal)
    (γ S : ℝ) (Q : Fin 1024 → ℝ) (ho : o = x + ((γ * S : ℝ) : EReal)) (hg : g = γ)
    (hs : ∀ k, hiddenUnit H (fun e => w1 e k) * w2 k = Q k) : stepped o g H w1 w2 = x + ((γ * (S + ∑ k, Q k) : ℝ) : EReal) := by
  unfold stepped
  simp only [hs]
  rw [← coe_sum, ho, hg, ← EReal.coe_mul, add_assoc, ← EReal.coe_add, mul_add]

end Cert.FfnRow

end
-- ==== Proof.FfnValue.lean ====
/- What one grid point of the feed-forward's kernel leaves: in the scratch the normalised rows, in the output block the
   residual plus the gated share of the hidden units seen so far. -/
module

public import proofs.«01_k».proof.Proof.Gen.FfnIdeal.Value
public import proofs.«01_k».proof.Proof.FfnRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Norm

open Cert.FfnIdeal Cert.FfnIdeal.Gen Cert.FfnRow

/-- What one step stores, when its normalised rows and its accumulator are known. -/
theorem store_at {h : Vec Ideal S512x2048 .bf16} (w1 : Vec Ideal S2048x1024 .bf16) (w2 : Vec Ideal S1024x2048 .bf16)
    {o : Vec Ideal S512x2048 .f32} (g : Vec Ideal S1x1x2048 .f32) (r : Fin 512) (d : Fin 2048) (H : Fin 2048 → EReal) (O : EReal)
    (hh : ∀ e, h (ix2 r e) = H e) (ho : o (ix2 r d) = O) :
    k0_pay1 h w1 w2 o g (ix2 r d)
      = stepped O (g (ix3 0 0 d)) H (fun e k => w1 (ix2 e k)) (fun k => w2 (ix2 k d)) := by
  pointwise [k0_pay1, hiddenUnit, stepped]
  simp only [hh, ho]

variable (m : (ℓ : Loc nD τ sig) → Buf (Elt Ideal) ℓ)

/-- At the first point of a run the scratch receives the normalised rows of the point's block. -/
theorem scratch_first (c : Dev nD) (t : Fin cfg0.N) (h : t.val % 8 = 0) (r : Fin 512) (d : Fin 2048) :
    (outsAt0 m c t.val t.isLt).2 (ix2 r d)
      = normed (fun e => iblk m c 0 t (ix2 r e)) (fun e => iblk m c 2 t (ix2 0 e)) (fun e => iblk m c 1 t (ix3 0 4 e))
          (fun e => iblk m c 1 t (ix3 0 3 e)) d := by
  rw [outsAt0_A m c t h]; frame_out
  generalize iblk m c 0 t = X
  generalize iblk m c 1 t = M
  generalize iblk m c 2 t = G
  canon_tiles z hz
  all_goals
    idx_vars z
    open_payloads
    pointwise [normed]
    blk_point []

/-- The gate's row read out of the modulation block. -/
theorem ld_gate (M : Vec Ideal S1x6x2048 .f32) (d : Fin 2048) :
    View.ld M (Rect.unit (s := S1x6x2048) ![0, 5, 0] ![1, 1, 2048] inb_S1x6x2048_S1x1x2048_0_5_0) (ix3 0 0 d) = M (ix3 0 5 d) := by
  refine congrArg M (funext fun a => Fin.ext ?_)
  match a with
  | 0 => show 0 + 1 * 0 = 0; omega
  | 1 => show 5 + 1 * 0 = 5; omega
  | 2 => show 0 + 1 * d.val = d.val; omega

/-- Sixteen rows read out of the block of the residual. -/
theorem ld_rows (X : Vec Ideal S512x2048 .f32) (p : ℕ) (inb) (z0 : Fin 16) (z1 : Fin 2048) (r : Fin 512) (d : Fin 2048)
    (h0 : r.val = p + z0.val) (h1 : d.val = z1.val) :
    View.ld X (Rect.unit (s := S512x2048) ![p, 0] ![16, 2048] inb) (ix2 z0 z1) = X (ix2 r d) := by
  refine congrArg X (funext fun a => Fin.ext ?_)
  match a with
  | 0 => show p + 1 * z0.val = r.val; omega
  | 1 => show 0 + 1 * z1.val = d.val; omega

/-- What the first point of a run leaves in the output block. -/
theorem out_first (c : Dev nD) (t : Fin cfg0.N) (h : t.val % 8 = 0) (r : Fin 512) (d : Fin 2048) : (outsAt0 m c t.val t.isLt).1 (ix2 r d)
    = stepped (iblk m c 0 t (ix2 r d)) (iblk m c 1 t (ix3 0 5 d)) (normed (fun e => iblk m c 0 t (ix2 r e)) (fun e => iblk m c 2 t (ix2 0 e)) (fun e => iblk m c 1 t (ix3 0 4 e))
          (fun e => iblk m c 1 t (ix3 0 3 e))) (fun e k => iblk m c 3 t (ix2 e k)) (fun k => iblk m c 4 t (ix2 k d)) := by
  rw [outsAt0_A m c t h]; frame_out
  refine (store_at _ _ _ _ _ (normed (fun e => iblk m c 0 t (ix2 r e)) (fun e => iblk m c 2 t (ix2 0 e)) (fun e => iblk m c 1 t (ix3 0 4 e))
          (fun e => iblk m c 1 t (ix3 0 3 e))) (iblk m c 0 t (ix2 r d)) (fun e => ?_) ?_).trans ?_
  · refine (congrFun (View.readCov_eq_canon' _ _ _) _).trans ?_
    have key := scratch_first m c t h r e
    rw [outsAt0_A m c t h] at key
    refine Eq.trans (congrArg (a₂ := ix2 r e) _ ?_) (Eq.trans ?_ key)
    · refine funext fun a => Fin.ext ?_
      match a with
      | 0 => show 0 + 1 * r.val = r.val; omega
      | 1 => show 0 + 1 * e.val = e.val; omega
    symm
    frame_out
  · refine (congrFun (View.readCov_eq_canon' _ _ _) _).trans ?_
    refine Eq.trans (congrArg (a₂ := ix2 r d) _ ?_) ?_
    · refine funext fun a => Fin.ext ?_
      match a with
      | 0 => show 0 + 1 * r.val = r.val; omega
      | 1 => show 0 + 1 * d.val = d.val; omega
    generalize iblk m c 0 t = X
    canon_tiles z hz
    all_goals
      idx_vars z
      exact ld_rows X _ _ z0 z1 r d (by omega) hz1
  · exact congrArg (fun z => stepped (iblk m c 0 t (ix2 r d)) z (normed (fun e => iblk m c 0 t (ix2 r e)) (fun e => iblk m c 2 t (ix2 0 e)) (fun e => iblk m c 1 t (ix3 0 4 e))
          (fun e => iblk m c 1 t (ix3 0 3 e))) (fun e k => iblk m c 3 t (ix2 e k)) (fun k => iblk m c 4 t (ix2 k d))) (ld_gate (iblk m c 1 t) d)

/-- What a later point of a run leaves in the output block, from what the point before left. -/
theorem out_next (c : Dev nD) (t : Fin cfg0.N) (h : ¬ t.val % 8 = 0) (r : Fin 512) (d : Fin 2048) (H : Fin 2048 → EReal) (O : EReal)
    (hH : ∀ e, (outsAt0 m c (t.val - 1) (Nat.lt_of_le_of_lt (Nat.sub_le _ _) t.isLt)).2 (ix2 r e) = H e)
    (hO : (outsAt0 m c (t.val - 1) (Nat.lt_of_le_of_lt (Nat.sub_le _ _) t.isLt)).1 (ix2 r d) = O) :
    (outsAt0 m c t.val t.isLt).1 (ix2 r d)
      = stepped O (iblk m c 1 t (ix3 0 5 d)) H (fun e k => iblk m c 3 t (ix2 e k)) (fun k => iblk m c 4 t (ix2 k d)) := by
  rw [outsAt0_B m c t h]; frame_out
  refine (store_at _ _ _ _ _ H O (fun e => ?_) hO).trans ?_
  · refine Eq.trans ?_ (hH e)
    exact congrFun (Memref.IsWhole.read_unread _ _) _
  · exact congrArg (fun z => stepped O z H (fun e k => iblk m c 3 t (ix2 e k)) (fun k => iblk m c 4 t (ix2 k d))) (ld_gate (iblk m c 1 t) d)

/-- A later point of a run leaves the scratch as it was. -/
theorem scratch_next (c : Dev nD) (t : Fin cfg0.N) (h : ¬ t.val % 8 = 0) (y) :
    (outsAt0 m c t.val t.isLt).2 y = (outsAt0 m c (t.val - 1) (Nat.lt_of_le_of_lt (Nat.sub_le _ _) t.isLt)).2 y := by
  rw [outsAt0_B m c t h]
  rfl

end Cert.FfnIdeal.Norm

end
-- ==== Proof.FfnFinal.lean ====
/- The array the feed-forward's kernel leaves, for finite weights, gains and modulations: each row of the residual plus
   the gate's row times the squared-ReLU feed-forward of the normalised row. -/
module

public import proofs.«01_k».proof.Proof.Gen.FfnIdeal.Value
public import proofs.«01_k».proof.Proof.FfnRow
public import proofs.«01_k».proof.Proof.FfnValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Norm

open Cert.FfnIdeal Cert.FfnIdeal.Gen Cert.FfnRow Cert.SoftRow

/-- The sequence a row belongs to. -/
abbrev seqOf (R : Fin 16384) : Fin 8 := ⟨R.val / 2048, by omega⟩

/-- The normalised and modulated row `R`. -/
def hRow (x : FVec Ideal S16384x2048 .f32) (mo : FVec Ideal S8x6x2048 .f32) (g : FVec Ideal S1x2048 .f32) (R : Fin 16384) :
    Fin 2048 → EReal :=
  normed (fun e => x (ix2 R e)) (fun e => g (ix2 0 e)) (fun e => mo (ix3 (seqOf R) 4 e)) (fun e => mo (ix3 (seqOf R) 3 e))

/-- Hidden unit `k` of row `R`, squared, times its weight towards column `d`. -/
def share (x : FVec Ideal S16384x2048 .f32) (mo : FVec Ideal S8x6x2048 .f32) (g : FVec Ideal S1x2048 .f32)
    (w1 : FVec Ideal S2048x8192 .bf16) (w2 : FVec Ideal S8192x2048 .bf16) (R : Fin 16384) (d : Fin 2048) (k : Fin 8192) : EReal :=
  hiddenUnit (hRow x mo g R) (fun e => w1 (ix2 e k)) * w2 (ix2 k d)

/-- The gate of row `R` at column `d`. -/
abbrev gateAt (mo : FVec Ideal S8x6x2048 .f32) (R : Fin 16384) (d : Fin 2048) : EReal := mo (ix3 (seqOf R) 5 d)

/-- The residual of row `R` at column `d`. -/
abbrev resAt (x : FVec Ideal S16384x2048 .f32) (R : Fin 16384) (d : Fin 2048) : EReal := x (ix2 R d)

/-- The feed-forward with its gated residual, index by index. -/
def fed (x : FVec Ideal S16384x2048 .f32) (mo : FVec Ideal S8x6x2048 .f32) (g : FVec Ideal S1x2048 .f32)
    (w1 : FVec Ideal S2048x8192 .bf16) (w2 : FVec Ideal S8192x2048 .bf16) : FVec Ideal S16384x2048 .f32 := fun j =>
  resAt x (j 0) (j 1) + gateAt mo (j 0) (j 1) * ∑ k, share x mo g w1 w2 (j 0) (j 1) k

/-- The arguments the sums need finite: shift, scale and gate, the gain and the two weights. The rows may be infinite. -/
structure Finite (mo : FVec Ideal S8x6x2048 .f32) (g : FVec Ideal S1x2048 .f32)
    (w1 : FVec Ideal S2048x8192 .bf16) (w2 : FVec Ideal S8192x2048 .bf16) : Prop where
  mo : ∀ (b : Fin 8) (i : Fin 6) (d : Fin 2048), 3 ≤ i.val → (mo (ix3 b i d) : EReal) ≠ ⊤ ∧ (mo (ix3 b i d) : EReal) ≠ ⊥
  g : ∀ d : Fin 2048, (g (ix2 0 d) : EReal) ≠ ⊤ ∧ (g (ix2 0 d) : EReal) ≠ ⊥
  w1 : ∀ (e : Fin 2048) (k : Fin 8192), (w1 (ix2 e k) : EReal) ≠ ⊤ ∧ (w1 (ix2 e k) : EReal) ≠ ⊥
  w2 : ∀ (k : Fin 8192) (d : Fin 2048), (w2 (ix2 k d) : EReal) ≠ ⊤ ∧ (w2 (ix2 k d) : EReal) ≠ ⊥

/-- For finite arguments every hidden unit's share is real. -/
theorem share_real (x : FVec Ideal S16384x2048 .f32) {mo : FVec Ideal S8x6x2048 .f32} {g : FVec Ideal S1x2048 .f32}
    {w1 : FVec Ideal S2048x8192 .bf16} {w2 : FVec Ideal S8192x2048 .bf16} (fin : Finite mo g w1 w2) (R : Fin 16384)
    (d : Fin 2048) (k : Fin 8192) : ∃ r : ℝ, share x mo g w1 w2 R d k = r := by
  obtain ⟨a, ha⟩ := hiddenUnit_real (hRow x mo g R) (fun e => w1 (ix2 e k))
    (fun e => normed_real _ _ _ _ _ (fin.g e) (fin.mo _ 4 e (by decide)) (fin.mo _ 3 e (by decide))) (fun e => real_of (fin.w1 e k))
  obtain ⟨b, hb⟩ := real_of (fin.w2 k d)
  refine ⟨a * b, ?_⟩
  unfold share
  rw [ha, hb, EReal.coe_mul]

variable (m : (ℓ : Loc nD τ sig) → Buf (Elt Ideal) ℓ)

/-- The block each window holds at grid point `t`. -/
theorem idx : ∀ t : Fin cfg0.N, win0_0.index t = ![t.val / 8, 0] ∧ win0_1.index t = ![t.val / 32, 0, 0] ∧ win0_2.index t = ![0, 0]
    ∧ win0_3.index t = ![0, t.val % 8] ∧ win0_4.index t = ![t.val % 8, 0] ∧ win0_5.index t = ![t.val / 8, 0] :=
  (by decide +kernel : ∀ t : Fin grid0.N, _)

/-- The row of the array that row `r` of point `t`'s block is. -/
abbrev rowAt (n : ℕ) (hn : n < 256) (r : Fin 512) : Fin 16384 := ⟨512 * (n / 8) + r.val, by omega⟩

theorem blk_x (c : Dev nD) (t : Fin cfg0.N) (r : Fin 512) (e : Fin 2048) :
    iblk m c 0 t (ix2 r e) = m ((c : Thread nD τ).loc main_arg0) (ix2 (rowAt t.val t.isLt r) e) := by
  blk_point [iblk, V, idx t]

theorem blk_mod (c : Dev nD) (t : Fin cfg0.N) (r : Fin 512) (i : Fin 6) (e : Fin 2048) :
    iblk m c 1 t (ix3 0 i e) = m ((c : Thread nD τ).loc main_arg1) (ix3 (seqOf (rowAt t.val t.isLt r)) i e) := by
  blk_point [iblk, V, idx t]

theorem blk_g (c : Dev nD) (t : Fin cfg0.N) (e : Fin 2048) :
    iblk m c 2 t (ix2 0 e) = m ((c : Thread nD τ).loc main_arg2) (ix2 0 e) := by
  blk_point [iblk, V, idx t]

theorem blk_w1 (c : Dev nD) (t : Fin cfg0.N) (e : Fin 2048) (k : Fin 1024) :
    iblk m c 3 t (ix2 e k) = m ((c : Thread nD τ).loc main_arg3) (ix2 e ⟨1024 * (t.val % 8) + k.val, by omega⟩) := by
  blk_point [iblk, V, idx t]

theorem blk_w2 (c : Dev nD) (t : Fin cfg0.N) (k : Fin 1024) (d : Fin 2048) :
    iblk m c 4 t (ix2 k d) = m ((c : Thread nD τ).loc main_arg4) (ix2 ⟨1024 * (t.val % 8) + k.val, by omega⟩ d) := by
  blk_point [iblk, V, idx t]

/-- The normalised row of point `t`'s block is the normalised row of the array. -/
theorem normed_blk (c : Dev nD) (t : Fin cfg0.N) (r : Fin 512) :
    normed (fun e => iblk m c 0 t (ix2 r e)) (fun e => iblk m c 2 t (ix2 0 e)) (fun e => iblk m c 1 t (ix3 0 4 e))
      (fun e => iblk m c 1 t (ix3 0 3 e))
      = hRow (m ((c : Thread nD τ).loc main_arg0)) (m ((c : Thread nD τ).loc main_arg1)) (m ((c : Thread nD τ).loc main_arg2))
          (rowAt t.val t.isLt r) := by
  unfold hRow
  rw [funext fun e => blk_x m c t r e, funext fun e => blk_g m c t e, funext fun e => blk_mod m c t r 4 e,
    funext fun e => blk_mod m c t r 3 e]

/-- The scratch holds the normalised rows of the block's rows at every point. -/
theorem scratch_all (c : Dev nD) (r : Fin 512) (d : Fin 2048) : ∀ (n : ℕ) (hn : n < 256),
    (outsAt0 m c n hn).2 (ix2 r d)
      = hRow (m ((c : Thread nD τ).loc main_arg0)) (m ((c : Thread nD τ).loc main_arg1)) (m ((c : Thread nD τ).loc main_arg2))
          (rowAt n hn r) d
  | 0, hn => (scratch_first m c ⟨0, hn⟩ rfl r d).trans (congrFun (normed_blk m c ⟨0, hn⟩ r) d)
  | n + 1, hn => by
    by_cases h : (n + 1) % 8 = 0
    · exact (scratch_first m c ⟨n + 1, hn⟩ h r d).trans (congrFun (normed_blk m c ⟨n + 1, hn⟩ r) d)
    · refine (scratch_next m c ⟨n + 1, hn⟩ h (ix2 r d)).trans ?_
      refine (scratch_all c r d n (by omega)).trans ?_
      have e : rowAt n (by omega) r = rowAt (n + 1) hn r := Fin.ext (by show 512 * (n / 8) + r.val = 512 * ((n + 1) / 8) + r.val; omega)
      rw [e]

/-- The shares of row `R` towards column `d` as reals, and zero past the last hidden unit. -/
def realShare (P : Fin 8192 → ℝ) (k : ℕ) : ℝ := if h : k < 8192 then P ⟨k, h⟩ else 0

theorem realShare_at (P : Fin 8192 → ℝ) {k : ℕ} (h : k < 8192) : realShare P k = P ⟨k, h⟩ := dif_pos h

/-- The sum over one more tile of hidden units. -/
theorem tile_sum (P : Fin 8192 → ℝ) (n : ℕ) :
    ∑ k ∈ Finset.range (1024 * (n + 1)), realShare P k
      = ∑ k ∈ Finset.range (1024 * n), realShare P k + ∑ k : Fin 1024, realShare P (1024 * n + k.val) := by
  rw [Nat.mul_succ, Finset.sum_range_add, Finset.sum_range (fun i => realShare P (1024 * n + i))]

/-- At every point the output block holds the residual plus the gate times the shares of the tiles seen so far. -/
theorem out_all (c : Dev nD) (r : Fin 512) (d : Fin 2048) (q : ℕ) (hq : q < 32) (γ : ℝ) (P : Fin 8192 → ℝ)
    (hγ : gateAt (m ((c : Thread nD τ).loc main_arg1)) ⟨512 * q + r.val, by omega⟩ d = γ)
    (hP : ∀ k, share (m ((c : Thread nD τ).loc main_arg0)) (m ((c : Thread nD τ).loc main_arg1)) (m ((c : Thread nD τ).loc main_arg2))
      (m ((c : Thread nD τ).loc main_arg3)) (m ((c : Thread nD τ).loc main_arg4)) ⟨512 * q + r.val, by omega⟩ d k = P k) :
    ∀ (i : ℕ) (hi : i < 8), (outsAt0 m c (8 * q + i) (by show 8 * q + i < 256; omega)).1 (ix2 r d)
      = resAt (m ((c : Thread nD τ).loc main_arg0)) ⟨512 * q + r.val, by omega⟩ d + ((γ * ∑ k ∈ Finset.range (1024 * (i + 1)), realShare P k : ℝ) : EReal) := by
  have row : ∀ (i : ℕ) (hi : i < 8), rowAt (8 * q + i) (by omega) r = ⟨512 * q + r.val, by omega⟩ := fun i hi =>
    Fin.ext (by show 512 * ((8 * q + i) / 8) + r.val = 512 * q + r.val; omega)
  have gate : ∀ (i : ℕ) (hi : i < 8), iblk m c 1 ⟨8 * q + i, by show 8 * q + i < 256; omega⟩ (ix3 0 5 d) = ((γ : ℝ) : EReal) := fun i hi => by
    refine (blk_mod m c ⟨8 * q + i, by show 8 * q + i < 256; omega⟩ r 5 d).trans ?_
    rw [row i hi]
    exact hγ
  have tile : ∀ (i : ℕ) (hi : i < 8) (k : Fin 1024),
      hiddenUnit (hRow (m ((c : Thread nD τ).loc main_arg0)) (m ((c : Thread nD τ).loc main_arg1)) (m ((c : Thread nD τ).loc main_arg2))
          ⟨512 * q + r.val, by omega⟩) (fun e => iblk m c 3 ⟨8 * q + i, by show 8 * q + i < 256; omega⟩ (ix2 e k))
        * (iblk m c 4 ⟨8 * q + i, by show 8 * q + i < 256; omega⟩ (ix2 k d) : EReal) = realShare P (1024 * i + k.val) := fun i hi k => by
    have e : (⟨1024 * ((8 * q + i) % 8) + k.val, by omega⟩ : Fin 8192) = ⟨1024 * i + k.val, by omega⟩ := Fin.ext (by
      show 1024 * ((8 * q + i) % 8) + k.val = 1024 * i + k.val; omega)
    rw [realShare_at P (by omega), ← hP, share, funext fun x => blk_w1 m c ⟨8 * q + i, by show 8 * q + i < 256; omega⟩ x k,
      blk_w2 m c ⟨8 * q + i, by show 8 * q + i < 256; omega⟩ k d, e]
  intro i
  induction i with
  | zero =>
    intro hi
    have hm : (8 * q + 0) % 8 = 0 := by omega
    refine (out_first m c ⟨8 * q + 0, by show 8 * q + 0 < 256; omega⟩ hm r d).trans ?_
    rw [normed_blk m c ⟨8 * q + 0, by show 8 * q + 0 < 256; omega⟩ r, row 0 hi,
      blk_x m c ⟨8 * q + 0, by show 8 * q + 0 < 256; omega⟩ r d, row 0 hi]
    refine (stepped_coe _ γ 0 (fun k => realShare P (1024 * 0 + k.val)) (by rw [mul_zero, EReal.coe_zero, add_zero]) (gate 0 hi) (tile 0 hi)).trans ?_
    rw [tile_sum P 0, Nat.mul_zero, Finset.range_zero, Finset.sum_empty]
  | succ i ih =>
    intro hi
    have hm : ¬ (8 * q + (i + 1)) % 8 = 0 := by omega
    refine (out_next m c ⟨8 * q + (i + 1), by show 8 * q + (i + 1) < 256; omega⟩ hm r d
      (hRow (m ((c : Thread nD τ).loc main_arg0)) (m ((c : Thread nD τ).loc main_arg1)) (m ((c : Thread nD τ).loc main_arg2))
          ⟨512 * q + r.val, by omega⟩) _
      (fun e => (scratch_all m c r e (8 * q + i) (by omega)).trans (by rw [row i (by omega)])) (ih (by omega))).trans ?_
    refine (stepped_coe _ γ _ (fun k => realShare P (1024 * (i + 1) + k.val)) rfl (gate (i + 1) hi) (tile (i + 1) hi)).trans ?_
    rw [tile_sum P (i + 1)]

/-- At the last tile the output block's row is the feed-forward's. -/
theorem out_last (c : Dev nD) (fin : Finite (m ((c : Thread nD τ).loc main_arg1)) (m ((c : Thread nD τ).loc main_arg2))
    (m ((c : Thread nD τ).loc main_arg3)) (m ((c : Thread nD τ).loc main_arg4))) (q : ℕ) (hq : q < 32) (r : Fin 512) (d : Fin 2048) :
    (outsAt0 m c (8 * q + 7) (by show 8 * q + 7 < 256; omega)).1 (ix2 r d)
      = fed (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨512 * q + r.val, by omega⟩ d) := by
  obtain ⟨γ, hγ⟩ := real_of (fin.mo (seqOf ⟨512 * q + r.val, by omega⟩) 5 d (by decide))
  choose P hP using share_real (m ((c : Thread nD τ).loc main_arg0)) fin ⟨512 * q + r.val, by omega⟩ d
  refine (out_all m c r d q hq γ P hγ hP 7 (by decide)).trans ?_
  show _ = resAt (m ((c : Thread nD τ).loc main_arg0)) ⟨512 * q + r.val, by omega⟩ d
    + gateAt (m ((c : Thread nD τ).loc main_arg1)) ⟨512 * q + r.val, by omega⟩ d
      * ∑ k, share (m ((c : Thread nD τ).loc main_arg0)) (m ((c : Thread nD τ).loc main_arg1)) (m ((c : Thread nD τ).loc main_arg2))
          (m ((c : Thread nD τ).loc main_arg3)) (m ((c : Thread nD τ).loc main_arg4)) ⟨512 * q + r.val, by omega⟩ d k
  rw [show gateAt (m ((c : Thread nD τ).loc main_arg1)) ⟨512 * q + r.val, by omega⟩ d = γ from hγ, Finset.sum_congr rfl fun k _ => hP k,
    ← coe_sum, ← EReal.coe_mul, show 1024 * (7 + 1) = 8192 from rfl, Finset.sum_range,
    Finset.sum_congr rfl fun k _ => realShare_at P k.isLt]

/-- What a point that ends a block of rows leaves at `y` is the feed-forward where `y` sits in the array. -/
theorem point (c : Dev nD) (fin : Finite (m ((c : Thread nD τ).loc main_arg1)) (m ((c : Thread nD τ).loc main_arg2))
    (m ((c : Thread nD τ).loc main_arg3)) (m ((c : Thread nD τ).loc main_arg4))) (t : Fin cfg0.N) (h : t.val % 8 = 7) (y) :
    (outsAt0 m c t.val t.isLt).1 y
      = fed (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  have at_end : ∀ (n : ℕ) (hn : n < 256) (q : ℕ), n = 8 * q + 7 → ∀ (r : Fin 512) (d : Fin 2048), (outsAt0 m c n hn).1 (ix2 r d)
      = fed (m ((c : Thread nD τ).loc main_arg0)) (m ((c : Thread nD τ).loc main_arg1))
          (m ((c : Thread nD τ).loc main_arg2)) (m ((c : Thread nD τ).loc main_arg3)) (m ((c : Thread nD τ).loc main_arg4))
          (ix2 (rowAt n hn r) d) := by
    rintro _ hn q rfl r d
    have e : rowAt (8 * q + 7) hn r = ⟨512 * q + r.val, by omega⟩ :=
      Fin.ext (by show 512 * ((8 * q + 7) / 8) + r.val = 512 * q + r.val; omega)
    rw [e]
    exact out_last m c fin q (by omega) r d
  have ey : y = ix2 (y 0) (y 1) := funext fun a => match a with | 0 => rfl | 1 => rfl
  have ez : ((cfg0.win 5).blk t).view.emb y = ix2 (rowAt t.val t.isLt (y 0)) (y 1) := by
    blk_ext [idx t]
  rw [ez]
  exact (congrArg (outsAt0 m c t.val t.isLt).1 ey).trans (at_end t.val t.isLt (t.val / 8) (by omega) (y 0) (y 1))

/-- The whole array the kernel leaves, for finite weights, gains and modulations. -/
theorem final (c : Dev nD) (fin : Finite (m ((c : Thread nD τ).loc main_arg1)) (m ((c : Thread nD τ).loc main_arg2))
    (m ((c : Thread nD τ).loc main_arg3)) (m ((c : Thread nD τ).loc main_arg4))) :
    (dats m 0 c).arrAt 5 cfg0.N = fed (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h7 := (flush0_5 t).mp hf
  blk_simp; rw [after0_5]
  exact point m c fin t h7 y

end Cert.FfnIdeal.Norm

end
-- ==== Proof.FfnClaim.lean ====
/- The feed-forward: the kernel and the reference compute the same array over the exact numbers. -/
module

public import proofs.«01_k».proof.Proof.Gen.FfnIdeal.Value
public import proofs.«01_k».proof.Proof.Gen.FfnRefIdeal.Run
public import proofs.«01_k».proof.Proof.FfnFinal
public import proofs.«01_k».proof.Proof.FiniteArg
public import proofs.«01_k».proof.Defs
public import proofs.«01_k».proof.Proof.Gen.Pre_ffn_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnRefIdeal.Norm

open Cert.FfnRefIdeal Cert.FfnRefIdeal.Gen Cert.FfnIdeal.Norm Cert.FfnRow Cert.FiniteArg

/-- The reference's factor of each row. -/
def factor (a0 : FVec Ideal S16384x2048 .f32) (z n e : FVec Ideal S_ .f32) : FVec Ideal S8x2048x1 .f32 :=
  Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) z reducesTo_S8x2048x2048_S8x2048_d2 h_S_)) (broadcastInDim S8x2048x1 ![] bcast_S_S8x2048x1 n)) (broadcastInDim S8x2048x1 ![] bcast_S_S8x2048x1 e))

/-- The reference's normalised and modulated rows. -/
def rows (a0 : FVec Ideal S16384x2048 .f32) (a1 : FVec Ideal S8x6x2048 .f32) (a2 : FVec Ideal S1x2048 .f32) (q : FVec Ideal S8x2048x1 .f32)
    (o : FVec Ideal S_ .f32) : FVec Ideal S8x2048x2048 .f32 :=
  addf (mulf (mulf (mulf (shapeCast _ a0 shapeCasts_S16384x2048_S8x2048x2048) (broadcastInDim S8x2048x2048 ![0, 1, 2] bcast_S8x2048x1_S8x2048x2048_0_1_2 q)) (broadcastInDim S8x2048x2048 ![0, 1, 2] bcast_S1x1x2048_S8x2048x2048_0_1_2 (broadcastInDim S1x1x2048 ![2] bcast_S2048_S1x1x2048_2 (shapeCast _ a2 shapeCasts_S1x2048_S2048)))) (broadcastInDim S8x2048x2048 ![0, 1, 2] bcast_S8x1x2048_S8x2048x2048_0_1_2 (addf (broadcastInDim S8x1x2048 ![] bcast_S_S8x1x2048 o) (broadcastInDim S8x1x2048 ![0, 2] bcast_S8x2048_S8x1x2048_0_2 (shapeCast _ (extractStridedSlice S8x1x2048 ![0, 4, 0] a1 slices_S8x6x2048_S8x1x2048_0_4_0) shapeCasts_S8x1x2048_S8x2048))))) (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 3, 0] a1 slices_S8x6x2048_S8x1x2048_0_3_0) shapeCasts_S8x1x2048_S8x2048)))

/-- The reference's hidden units. -/
def units (h : FVec Ideal S8x2048x2048 .f32) (w1 : FVec Ideal S2048x8192 .bf16) (z : FVec Ideal S_ .f32) : FVec Ideal S8x2048x8192 .f32 :=
  maximumf (Host.dotGeneral dot_S8x2048x2048_S2048x8192_S8x2048x8192_2_0_01_1_n_n none h (extf .f32 w1 bitsLt_bf16_f32)) (broadcastInDim S8x2048x8192 ![] bcast_S_S8x2048x8192 z)

/-- The reference's output from its hidden units. -/
def closed (a0 : FVec Ideal S16384x2048 .f32) (a1 : FVec Ideal S8x6x2048 .f32) (u : FVec Ideal S8x2048x8192 .f32) (w2 : FVec Ideal S8192x2048 .bf16) :
    FVec Ideal S16384x2048 .f32 :=
  shapeCast _ (addf (shapeCast _ a0 shapeCasts_S16384x2048_S8x2048x2048) (mulf (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 5, 0] a1 slices_S8x6x2048_S8x1x2048_0_5_0) shapeCasts_S8x1x2048_S8x2048))) (Host.dotGeneral dot_S8x2048x8192_S8192x2048_S8x2048x2048_2_0_01_1_n_n none (mulf u u) (extf .f32 w2 bitsLt_bf16_f32)))) shapeCasts_S8x2048x2048_S16384x2048

/-- The reference's output. -/
def whole (a0 : FVec Ideal S16384x2048 .f32) (a1 : FVec Ideal S8x6x2048 .f32) (a2 : FVec Ideal S1x2048 .f32)
    (a3 : FVec Ideal S2048x8192 .bf16) (a4 : FVec Ideal S8192x2048 .bf16) : FVec Ideal S16384x2048 .f32 :=
  closed a0 a1 (units (rows a0 a1 a2 (factor a0 (constant S_ .f32 0x00000000#32) (constant S_ .f32 0x45000000#32) (constant S_ .f32 0x358637BD#32))
    (constant S_ .f32 0x3F800000#32)) a3 (constant S_ .f32 0x00000000#32)) a4

/-- Row `t` of sequence `b` among all rows. -/
abbrev rowOf (b : Fin 8) (t : Fin 2048) : Fin 16384 := ⟨b.val * 2048 + t.val, by omega⟩

theorem one32 : Ideal.ofBits .f32 0x3F800000#32 = 1 := by
  simp [Ideal.ofBits, Ideal.ieee]
  rw [← EReal.coe_mul, ← EReal.coe_one]
  norm_num

theorem factor_at (a0 : FVec Ideal S16384x2048 .f32) (z n e : FVec Ideal S_ .f32) (b : Fin 8) (t : Fin 2048) :
    factor a0 z n e (ix3 b t 0)
      = Ideal.rsqrt (Ideal.div (z ix0 + ∑ i, a0 (ix2 (rowOf b t) i) * a0 (ix2 (rowOf b t) i)) (n ix0) + e ix0) := by
  have e : Shape.Idx.first h_S_ = (ix0 : S_.Idx) := funext fun a => a.elim0
  pointwise [factor]
  rw [e]

theorem rows_at (a0 : FVec Ideal S16384x2048 .f32) (a1 : FVec Ideal S8x6x2048 .f32) (a2 : FVec Ideal S1x2048 .f32)
    (q : FVec Ideal S8x2048x1 .f32) (o : FVec Ideal S_ .f32) (b : Fin 8) (t d : Fin 2048) :
    rows a0 a1 a2 q o (ix3 b t d)
      = a0 (ix2 (rowOf b t) d) * q (ix3 b t 0) * a2 (ix2 0 d) * (o ix0 + a1 (ix3 b 4 d)) + a1 (ix3 b 3 d) := by
  pointwise [rows]

theorem units_at (h : FVec Ideal S8x2048x2048 .f32) (w1 : FVec Ideal S2048x8192 .bf16) (z : FVec Ideal S_ .f32)
    (b : Fin 8) (t : Fin 2048) (k : Fin 8192) :
    units h w1 z (ix3 b t k) = max (∑ e : Fin 2048, h (ix3 b t e) * w1 (ix2 e k)) (z ix0) := by
  pointwise [units]

theorem closed_at (a0 : FVec Ideal S16384x2048 .f32) (a1 : FVec Ideal S8x6x2048 .f32) (u : FVec Ideal S8x2048x8192 .f32)
    (w2 : FVec Ideal S8192x2048 .bf16) (b : Fin 8) (t d : Fin 2048) :
    closed a0 a1 u w2 (ix2 (rowOf b t) d)
      = a0 (ix2 (rowOf b t) d) + a1 (ix3 b 5 d) * ∑ k : Fin 8192, u (ix3 b t k) * u (ix3 b t k) * w2 (ix2 k d) := by
  have e1 : (b.val * 2048 + t.val) / 2048 = b.val := by omega
  have e2 : (b.val * 2048 + t.val) % 2048 = t.val := by omega
  pointwise [closed]
  simp only [e1, e2]

theorem zero_at : constant (F := Ideal) S_ .f32 0x00000000#32 ix0 = (0 : EReal) := by
  show Ideal.ofBits .f32 0x00000000#32 = 0
  simp [Ideal.ofBits, Ideal.ieee]

theorem one_at : constant (F := Ideal) S_ .f32 0x3F800000#32 ix0 = (1 : EReal) := one32

/-- The reference's rows are the kernel's normalised rows. -/
theorem rows_eq (a0 : FVec Ideal S16384x2048 .f32) (a1 : FVec Ideal S8x6x2048 .f32) (a2 : FVec Ideal S1x2048 .f32)
    (b : Fin 8) (t d : Fin 2048) :
    rows a0 a1 a2 (factor a0 (constant S_ .f32 0x00000000#32) (constant S_ .f32 0x45000000#32) (constant S_ .f32 0x358637BD#32))
      (constant S_ .f32 0x3F800000#32) (ix3 b t d) = hRow a0 a1 a2 (rowOf b t) d := by
  have e : seqOf (rowOf b t) = b := Fin.ext (by show (b.val * 2048 + t.val) / 2048 = b.val; omega)
  rw [rows_at, factor_at, zero_at, one_at, zero_add, hRow, normed, e]
  rw [mul_assoc (a0 (ix2 (rowOf b t) d) * _)]
  rfl

/-- The reference's output is the feed-forward of the arguments. -/
theorem whole_eq (a0 : FVec Ideal S16384x2048 .f32) (a1 : FVec Ideal S8x6x2048 .f32) (a2 : FVec Ideal S1x2048 .f32)
    (a3 : FVec Ideal S2048x8192 .bf16) (a4 : FVec Ideal S8192x2048 .bf16) : whole a0 a1 a2 a3 a4 = fed a0 a1 a2 a3 a4 := by
  funext j
  idx_vars j
  obtain ⟨b, t, rfl⟩ : ∃ (b : Fin 8) (t : Fin 2048), j0 = rowOf b t :=
    ⟨⟨j0.val / 2048, by omega⟩, ⟨j0.val % 2048, by omega⟩, Fin.ext (by simp only []; omega)⟩
  have e : seqOf (rowOf b t) = b := Fin.ext (by show (b.val * 2048 + t.val) / 2048 = b.val; omega)
  unfold whole
  rw [closed_at]
  show _ = resAt a0 (rowOf b t) j1 + gateAt a1 (rowOf b t) j1 * ∑ k, share a0 a1 a2 a3 a4 (rowOf b t) j1 k
  unfold gateAt
  rw [e]
  simp only [units_at, rows_eq, zero_at, share, hiddenUnit]

/-- The precondition's truths make the arguments finite. -/
theorem finite_of (a0 : FVec Ideal S16384x2048 .f32) (a1 : FVec Ideal S8x6x2048 .f32) (a2 : FVec Ideal S1x2048 .f32)
    (a3 : FVec Ideal S2048x8192 .bf16) (a4 : FVec Ideal S8192x2048 .bf16)
    (h1 : (Cert.Pre_ffn_finite.fn (F := Ideal) a0 a1 a2 a3 a4).1 = fun _ => 1#1)
    (h2 : (Cert.Pre_ffn_finite.fn (F := Ideal) a0 a1 a2 a3 a4).2.1 = fun _ => 1#1)
    (h3 : (Cert.Pre_ffn_finite.fn (F := Ideal) a0 a1 a2 a3 a4).2.2.1 = fun _ => 1#1)
    (h4 : (Cert.Pre_ffn_finite.fn (F := Ideal) a0 a1 a2 a3 a4).2.2.2 = fun _ => 1#1) : Finite a1 a2 a3 a4 := by
  refine ⟨fun b i d hi => ?_, fun d => ?_, fun e k => ?_, fun k d => ?_⟩
  · obtain ⟨n, rfl⟩ : ∃ n : Fin 3, i = ⟨3 + n.val, Nat.add_lt_add_left n.isLt 3⟩ := ⟨⟨i.val - 3, by omega⟩, Fin.ext (by simp only []; omega)⟩
    have e := congrFun h1 (ix3 b n d)
    refine finite_of_lt _ (Eq.trans ?_ e)
    pointwise [Cert.Pre_ffn_finite.fn]
  · have e := congrFun h2 (ix2 0 d)
    refine finite_of_lt _ (Eq.trans ?_ e)
    pointwise [Cert.Pre_ffn_finite.fn]
  · have q := congrFun h3 (ix2 e k)
    refine finite_of_lt _ (Eq.trans ?_ q)
    pointwise [Cert.Pre_ffn_finite.fn]
  · have q := congrFun h4 (ix2 k d)
    refine finite_of_lt _ (Eq.trans ?_ q)
    pointwise [Cert.Pre_ffn_finite.fn]

end Cert.FfnRefIdeal.Norm

namespace Cert.FfnIdeal.Norm

open Cert.FfnIdeal Cert.FfnIdeal.Gen

/-- From agreeing finite arguments the kernel and the reference leave equal arrays. -/
theorem algebraic : Cert.algebraic_FfnIdeal_FfnRefIdeal_pre_ffn_finite := by
  pair_intro
  · run_from Cert.FfnIdeal.Value.run_blocks m g
  · run_from Cert.FfnRefIdeal.Value.run m' g'
    have fin := Cert.FfnRefIdeal.Norm.finite_of _ _ _ _ _ (hpre c).1 (hpre c).2.1 (hpre c).2.2.1 (hpre c).2.2.2
    rw [final m c fin, ← Cert.FfnRefIdeal.Norm.whole_eq, ← (hagree c).1, ← (hagree c).2.1, ← (hagree c).2.2.1,
      ← (hagree c).2.2.2.1, ← (hagree c).2.2.2.2]
    unfold Cert.FfnRefIdeal.Value.res_main_v39
    rfl

end Cert.FfnIdeal.Norm

end
-- ==== Proof.InprojRow.lean ====
/- One row of the input projection over the extended reals, as pure arithmetic. -/
module

public import proofs.«01_k».proof.Proof.FfnRow
public import Idealize.ShloMosaic.Lib.Pointwise
public import Idealize.ShloMosaic.Lib.IdealHost

@[expose] public section

noncomputable section

namespace Cert.InprojRow

open Idealize.ShloMosaic

/-- The smooth gate of a number, by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A head divided by the root of its mean square, with gain `g`. -/
def headRms (v g : Fin 128 → EReal) (d : Fin 128) : EReal :=
  v d * Ideal.rsqrt (Ideal.div (∑ e, v e * v e) (Ideal.ofBits .f32 0x43000000#32) + Ideal.ofBits .f32 0x358637BD#32) * g d

/-- A head less its mean. -/
def centred (v : Fin 128 → EReal) (d : Fin 128) : EReal := v d - Ideal.div (∑ e, v e) (Ideal.ofBits .f32 0x43000000#32)

/-- A head's layer norm: the centred head divided by the root of its mean square, with gain `g`. -/
def layerNorm (v g : Fin 128 → EReal) (d : Fin 128) : EReal := headRms (centred v) g d

/-- A weight where the column is not after the row, zero elsewhere. -/
def masked (t s : Fin 128) (w : EReal) : EReal := if s.val ≤ t.val then w else 0

/-- One entry mixed along its chunk: row `t` of the lower triangle of `w` times the chunk's column, plus a bias. -/
def mixedAt (w : Fin 128 → EReal) (v : Fin 128 → EReal) (b : EReal) (t : Fin 128) : EReal :=
  (∑ s, masked t s (w s) * v s) + b

end Cert.InprojRow

end
-- ==== Proof.InprojRef.lean ====
/- The input projection's reference, step by step, each step read at an index. -/
module

public import proofs.«01_k».proof.Proof.Gen.InprojRefIdeal.Run
public import proofs.«01_k».proof.Proof.InprojRow
public import proofs.«01_k».proof.Proof.FfnClaim
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojRefIdeal.Qkv

open Cert.InprojRefIdeal Cert.InprojRefIdeal.Gen Cert.InprojRow
open Cert.FfnRefIdeal.Norm (rowOf)

/-- The normalised and modulated rows. -/
def rows (a0 : FVec Ideal S16384x2048 .f32) (a1 : FVec Ideal S8x6x2048 .f32) (a2 : FVec Ideal S1x2048 .f32) (q : FVec Ideal S8x2048x1 .f32)
    (o : FVec Ideal S_ .f32) : FVec Ideal S8x2048x2048 .f32 :=
  addf (mulf (mulf (mulf (shapeCast _ a0 shapeCasts_S16384x2048_S8x2048x2048) (broadcastInDim S8x2048x2048 ![0, 1, 2] bcast_S8x2048x1_S8x2048x2048_0_1_2 q)) (broadcastInDim S8x2048x2048 ![0, 1, 2] bcast_S1x1x2048_S8x2048x2048_0_1_2 (broadcastInDim S1x1x2048 ![2] bcast_S2048_S1x1x2048_2 (shapeCast _ a2 shapeCasts_S1x2048_S2048)))) (broadcastInDim S8x2048x2048 ![0, 1, 2] bcast_S8x1x2048_S8x2048x2048_0_1_2 (addf (broadcastInDim S8x1x2048 ![] bcast_S_S8x1x2048 o) (broadcastInDim S8x1x2048 ![0, 2] bcast_S8x2048_S8x1x2048_0_2 (shapeCast _ (extractStridedSlice S8x1x2048 ![0, 1, 0] a1 slices_S8x6x2048_S8x1x2048_0_1_0) shapeCasts_S8x1x2048_S8x2048))))) (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 0, 0] a1 slices_S8x6x2048_S8x1x2048_0_0_0) shapeCasts_S8x1x2048_S8x2048)))

/-- The product of the rows with the weight. -/
def product (h : FVec Ideal S8x2048x2048 .f32) (a3 : FVec Ideal S5248x2048 .bf16) : FVec Ideal S8x2048x5248 .f32 :=
  Host.dotGeneral dot_S8x2048x2048_S5248x2048_S8x2048x5248_2_1_01_0_n_n none h (extf .f32 a3 bitsLt_bf16_f32)

/-- Heads divided by the root of their mean square. -/
def scaled (v c : FVec Ideal S8x2048x8x128 .f32) (z n e : FVec Ideal S_ .f32) : FVec Ideal S8x2048x8x128 .f32 :=
  mulf v (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf c c) z reducesTo_S8x2048x8x128_S8x2048x8_d3 h_S_)) (broadcastInDim S8x2048x8x1 ![] bcast_S_S8x2048x8x1 n)) (broadcastInDim S8x2048x8x1 ![] bcast_S_S8x2048x8x1 e))))

/-- A gain shared by all heads. -/
def gained (v : FVec Ideal S8x2048x8x128 .f32) (g : FVec Ideal S1x128 .f32) : FVec Ideal S8x2048x8x128 .f32 :=
  mulf v (broadcastInDim S8x2048x8x128 ![0, 1, 2, 3] bcast_S1x1x1x128_S8x2048x8x128_0_1_2_3 (broadcastInDim S1x1x1x128 ![3] bcast_S128_S1x1x1x128_3 (shapeCast _ g shapeCasts_S1x128_S128)))

/-- The smooth gate. -/
def gated (v : FVec Ideal S8x2048x1024 .f32) (c1 c2 c3 c4 : FVec Ideal S_ .f32) : FVec Ideal S8x2048x1024 .f32 :=
  mulf v (mulf (broadcastInDim S8x2048x1024 ![] bcast_S_S8x2048x1024 c4) (addf (broadcastInDim S8x2048x1024 ![] bcast_S_S8x2048x1024 c3) (Host.tanh (mulf (broadcastInDim S8x2048x1024 ![] bcast_S_S8x2048x1024 c2) (addf v (mulf (broadcastInDim S8x2048x1024 ![] bcast_S_S8x2048x1024 c1) (mulf (mulf v v) v)))))))

/-- Columns as heads. -/
def heads (v : FVec Ideal S8x2048x1024 .f32) : FVec Ideal S8x2048x8x128 .f32 := shapeCast _ v shapeCasts_S8x2048x1024_S8x2048x8x128

/-- Heads less their means. -/
def lessMean (v : FVec Ideal S8x2048x8x128 .f32) (z n : FVec Ideal S_ .f32) : FVec Ideal S8x2048x8x128 .f32 :=
  subf v (broadcastInDim S8x2048x8x128 ![0, 1, 2, 3] bcast_S8x2048x8x1_S8x2048x8x128_0_1_2_3 (Host.divf (broadcastInDim S8x2048x8x1 ![0, 1, 2] bcast_S8x2048x8_S8x2048x8x1_0_1_2 (Host.reduceAdd v z reducesTo_S8x2048x8x128_S8x2048x8_d3 h_S_)) (broadcastInDim S8x2048x8x1 ![] bcast_S_S8x2048x8x1 n)))

/-- A gain of each head. -/
def gainedEach (v : FVec Ideal S8x2048x8x128 .f32) (g : FVec Ideal S1x1024 .f32) : FVec Ideal S8x2048x8x128 .f32 :=
  mulf v (broadcastInDim S8x2048x8x128 ![0, 1, 2, 3] bcast_S1x1x8x128_S8x2048x8x128_0_1_2_3 (broadcastInDim S1x1x8x128 ![2, 3] bcast_S8x128_S1x1x8x128_2_3 (shapeCast _ g shapeCasts_S1x1024_S8x128)))

/-- The lower triangle of ones. -/
def lower (o z : FVec Ideal S_ .f32) : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 o) (broadcastInDim S128x128 ![] bcast_S_S128x128 z)

/-- The weight under the triangle. -/
def under (a7 : FVec Ideal S8x128x128 .f32) (l : FVec Ideal S128x128 .f32) : FVec Ideal S8x128x128 .f32 :=
  mulf a7 (broadcastInDim S8x128x128 ![0, 1, 2] bcast_S1x128x128_S8x128x128_0_1_2 (broadcastInDim S1x128x128 ![1, 2] bcast_S128x128_S1x128x128_1_2 l))

/-- The values mixed along their chunks, and the bias. -/
def mixed (v : FVec Ideal S8x2048x8x128 .f32) (w : FVec Ideal S8x128x128 .f32) (a8 : FVec Ideal S8x128 .f32) : FVec Ideal S8x2048x8x128 .f32 :=
  shapeCast _ (addf (transpose S8x16x128x8x128 [1, 2, 4, 0, 3] (Host.dotGeneral dot_S8x16x128x8x128_S8x128x128_S8x8x16x128x128_2_2_014_1_3_0 none (shapeCast S8x16x128x8x128 v shapeCasts_S8x2048x8x128_S8x16x128x8x128) w) transposes_S8x8x16x128x128_S8x16x128x8x128_1_2_4_0_3) (broadcastInDim S8x16x128x8x128 ![0, 1, 2, 3, 4] bcast_S1x1x128x8x1_S8x16x128x8x128_0_1_2_3_4 (broadcastInDim S1x1x128x8x1 ![2, 3] bcast_S128x8_S1x1x128x8x1_2_3 (transpose S128x8 [1, 0] a8 transposes_S8x128_S128x8_1_0)))) shapeCasts_S8x16x128x8x128_S8x2048x8x128

/-- Columns of the product. -/
def part0 (p : FVec Ideal S8x2048x5248 .f32) : FVec Ideal S8x2048x1024 .f32 :=
  extractStridedSlice S8x2048x1024 ![0, 0, 0] p slices_S8x2048x5248_S8x2048x1024_0_0_0

@[inherit_doc part0]
def part1 (p : FVec Ideal S8x2048x5248 .f32) : FVec Ideal S8x2048x1024 .f32 :=
  extractStridedSlice S8x2048x1024 ![0, 0, 1024] p slices_S8x2048x5248_S8x2048x1024_0_0_1024

@[inherit_doc part0]
def part2 (p : FVec Ideal S8x2048x5248 .f32) : FVec Ideal S8x2048x1024 .f32 :=
  extractStridedSlice S8x2048x1024 ![0, 0, 2048] p slices_S8x2048x5248_S8x2048x1024_0_0_2048

@[inherit_doc part0]
def part3 (p : FVec Ideal S8x2048x5248 .f32) : FVec Ideal S8x2048x1024 .f32 :=
  extractStridedSlice S8x2048x1024 ![0, 0, 3072] p slices_S8x2048x5248_S8x2048x1024_0_0_3072

@[inherit_doc part0]
def part4 (p : FVec Ideal S8x2048x5248 .f32) : FVec Ideal S8x2048x1024 .f32 :=
  extractStridedSlice S8x2048x1024 ![0, 0, 4096] p slices_S8x2048x5248_S8x2048x1024_0_0_4096

/-- A constant factor. -/
def times (v : FVec Ideal S8x2048x8x128 .f32) (c : FVec Ideal S_ .f32) : FVec Ideal S8x2048x8x128 .f32 :=
  mulf v (broadcastInDim S8x2048x8x128 ![] bcast_S_S8x2048x8x128 c)

/-- Queries, keys and values side by side. -/
def beside (q k : FVec Ideal S8x2048x8x128 .f32) (v : FVec Ideal S8x2048x1024 .f32) : FVec Ideal S16384x3072 .bf16 :=
  truncf .bf16 (concatenate S16384x3072 1 [⟨S16384x1024, shapeCast S16384x1024 q shapeCasts_S8x2048x8x128_S16384x1024⟩, ⟨S16384x1024, shapeCast S16384x1024 k shapeCasts_S8x2048x8x128_S16384x1024⟩, ⟨S16384x1024, shapeCast S16384x1024 v shapeCasts_S8x2048x1024_S16384x1024⟩] concatenates_S16384x1024_S16384x1024_S16384x1024_S16384x3072_d1) bitsLt_bf16_f32

/-- The gate times the mixed values. -/
def gate (u v : FVec Ideal S8x2048x8x128 .f32) : FVec Ideal S16384x1024 .bf16 :=
  truncf .bf16 (shapeCast S16384x1024 (shapeCast S8x2048x1024 (mulf u v) shapeCasts_S8x2048x8x128_S8x2048x1024) shapeCasts_S8x2048x1024_S16384x1024) bitsLt_bf16_f32

/-- The last columns. -/
def lastCols (p : FVec Ideal S8x2048x5248 .f32) : FVec Ideal S16384x128 .f32 :=
  shapeCast _ (extractStridedSlice S8x2048x128 ![0, 0, 5120] p slices_S8x2048x5248_S8x2048x128_0_0_5120) shapeCasts_S8x2048x128_S16384x128

theorem first_eq : Shape.Idx.first h_S_ = (ix0 : S_.Idx) := funext fun a => a.elim0

theorem rows_at (a0 : FVec Ideal S16384x2048 .f32) (a1 : FVec Ideal S8x6x2048 .f32) (a2 : FVec Ideal S1x2048 .f32)
    (q : FVec Ideal S8x2048x1 .f32) (o : FVec Ideal S_ .f32) (b : Fin 8) (t d : Fin 2048) :
    rows a0 a1 a2 q o (ix3 b t d)
      = a0 (ix2 (rowOf b t) d) * q (ix3 b t 0) * a2 (ix2 0 d) * (o ix0 + a1 (ix3 b 1 d)) + a1 (ix3 b 0 d) := by
  pointwise [rows]

theorem product_at (h : FVec Ideal S8x2048x2048 .f32) (a3 : FVec Ideal S5248x2048 .bf16) (b : Fin 8) (t : Fin 2048) (n : Fin 5248) :
    product h a3 (ix3 b t n) = ∑ e : Fin 2048, h (ix3 b t e) * a3 (ix2 n e) := by
  pointwise [product]

theorem scaled_at (v c : FVec Ideal S8x2048x8x128 .f32) (z n e : FVec Ideal S_ .f32) (b : Fin 8) (t : Fin 2048) (g : Fin 8) (d : Fin 128) :
    scaled v c z n e (ix4 b t g d)
      = v (ix4 b t g d) * Ideal.rsqrt (Ideal.div (z ix0 + ∑ i : Fin 128, c (ix4 b t g i) * c (ix4 b t g i)) (n ix0) + e ix0) := by
  pointwise [scaled]
  rw [first_eq]

theorem gained_at (v : FVec Ideal S8x2048x8x128 .f32) (w : FVec Ideal S1x128 .f32) (b : Fin 8) (t : Fin 2048) (g : Fin 8) (d : Fin 128) :
    gained v w (ix4 b t g d) = v (ix4 b t g d) * w (ix2 0 d) := by
  pointwise [gained]

theorem gated_at (v : FVec Ideal S8x2048x1024 .f32) (c1 c2 c3 c4 : FVec Ideal S_ .f32) (b : Fin 8) (t : Fin 2048) (n : Fin 1024) :
    gated v c1 c2 c3 c4 (ix3 b t n) = v (ix3 b t n) * (c4 ix0 * (c3 ix0 + Ideal.tanh (c2 ix0 * (v (ix3 b t n)
      + c1 ix0 * (v (ix3 b t n) * v (ix3 b t n) * v (ix3 b t n)))))) := by
  pointwise [gated]

theorem heads_at (v : FVec Ideal S8x2048x1024 .f32) (b : Fin 8) (t : Fin 2048) (g : Fin 8) (d : Fin 128) :
    heads v (ix4 b t g d) = v (ix3 b t ⟨128 * g.val + d.val, by omega⟩) := by
  pointwise [heads]
  have e : g.val * 128 + d.val = 128 * g.val + d.val := by omega
  simp only [e]

theorem lessMean_at (v : FVec Ideal S8x2048x8x128 .f32) (z n : FVec Ideal S_ .f32) (b : Fin 8) (t : Fin 2048) (g : Fin 8) (d : Fin 128) :
    lessMean v z n (ix4 b t g d) = v (ix4 b t g d) - Ideal.div (z ix0 + ∑ i : Fin 128, v (ix4 b t g i)) (n ix0) := by
  pointwise [lessMean]
  rw [first_eq]

theorem gainedEach_at (v : FVec Ideal S8x2048x8x128 .f32) (w : FVec Ideal S1x1024 .f32) (b : Fin 8) (t : Fin 2048) (g : Fin 8) (d : Fin 128) :
    gainedEach v w (ix4 b t g d) = v (ix4 b t g d) * w (ix2 0 ⟨128 * g.val + d.val, by omega⟩) := by
  pointwise [gainedEach]
  have e : g.val * 128 + d.val = 128 * g.val + d.val := by omega
  simp only [e]

theorem lower_at (o z : FVec Ideal S_ .f32) (t s : Fin 128) : lower o z (ix2 t s) = if s.val ≤ t.val then o ix0 else z ix0 := by
  pointwise [lower]
  have e : IntOp.addi (BitVec.ofNat 32 t.val) 0#32 = BitVec.ofNat 32 t.val := by simp [IntOp.addi]
  rw [e]
  exact Cert.AttnIdeal.Soft.select_sle _ _ (by omega) (by omega)

theorem under_at (a7 : FVec Ideal S8x128x128 .f32) (l : FVec Ideal S128x128 .f32) (g : Fin 8) (t s : Fin 128) :
    under a7 l (ix3 g t s) = a7 (ix3 g t s) * l (ix2 t s) := by
  pointwise [under]

theorem mixed_at (v : FVec Ideal S8x2048x8x128 .f32) (w : FVec Ideal S8x128x128 .f32) (a8 : FVec Ideal S8x128 .f32)
    (b : Fin 8) (k : Fin 16) (t : Fin 128) (g : Fin 8) (d : Fin 128) :
    mixed v w a8 (ix4 b ⟨128 * k.val + t.val, by omega⟩ g d)
      = ∑ s : Fin 128, v (ix4 b ⟨128 * k.val + s.val, by omega⟩ g d) * w (ix3 g t s) + a8 (ix2 g t) := by
  pointwise [mixed]
  have e : ∀ x : Fin 128, k.val * 128 + x.val = 128 * k.val + x.val := fun x => by omega
  simp only [e]
theorem part0_at (p : FVec Ideal S8x2048x5248 .f32) (b : Fin 8) (t : Fin 2048) (n : Fin 1024) :
    part0 p (ix3 b t n) = p (ix3 b t ⟨n.val, by omega⟩) := by
  pointwise [part0]

theorem part1_at (p : FVec Ideal S8x2048x5248 .f32) (b : Fin 8) (t : Fin 2048) (n : Fin 1024) :
    part1 p (ix3 b t n) = p (ix3 b t ⟨1024 + n.val, by omega⟩) := by
  pointwise [part1]

theorem part2_at (p : FVec Ideal S8x2048x5248 .f32) (b : Fin 8) (t : Fin 2048) (n : Fin 1024) :
    part2 p (ix3 b t n) = p (ix3 b t ⟨2048 + n.val, by omega⟩) := by
  pointwise [part2]

theorem part3_at (p : FVec Ideal S8x2048x5248 .f32) (b : Fin 8) (t : Fin 2048) (n : Fin 1024) :
    part3 p (ix3 b t n) = p (ix3 b t ⟨3072 + n.val, by omega⟩) := by
  pointwise [part3]

theorem part4_at (p : FVec Ideal S8x2048x5248 .f32) (b : Fin 8) (t : Fin 2048) (n : Fin 1024) :
    part4 p (ix3 b t n) = p (ix3 b t ⟨4096 + n.val, by omega⟩) := by
  pointwise [part4]

theorem times_at (v : FVec Ideal S8x2048x8x128 .f32) (c : FVec Ideal S_ .f32) (b : Fin 8) (t : Fin 2048) (g : Fin 8) (d : Fin 128) :
    times v c (ix4 b t g d) = v (ix4 b t g d) * c ix0 := by
  pointwise [times]

theorem beside_query (q k : FVec Ideal S8x2048x8x128 .f32) (v : FVec Ideal S8x2048x1024 .f32) (b : Fin 8) (t : Fin 2048) (g : Fin 8)
    (d : Fin 128) : beside q k v (ix2 (rowOf b t) ⟨128 * g.val + d.val, by omega⟩) = q (ix4 b t g d) := by
  pointwise [beside]
  rw [dif_pos (by omega)]

theorem beside_key (q k : FVec Ideal S8x2048x8x128 .f32) (v : FVec Ideal S8x2048x1024 .f32) (b : Fin 8) (t : Fin 2048) (g : Fin 8)
    (d : Fin 128) : beside q k v (ix2 (rowOf b t) ⟨1024 + (128 * g.val + d.val), by omega⟩) = k (ix4 b t g d) := by
  pointwise [beside]
  rw [dif_pos (by omega)]

theorem beside_value (q k : FVec Ideal S8x2048x8x128 .f32) (v : FVec Ideal S8x2048x1024 .f32) (b : Fin 8) (t : Fin 2048)
    (n : Fin 1024) : beside q k v (ix2 (rowOf b t) ⟨2048 + n.val, by omega⟩) = v (ix3 b t n) := by
  pointwise [beside]
  rw [dif_neg (by omega), dif_neg (by omega)]
  exact congrArg (fun i => v (ix3 b t i)) (Fin.ext (by show 2048 + n.val - 1024 - 1024 = n.val; omega))

theorem gate_at (u v : FVec Ideal S8x2048x8x128 .f32) (b : Fin 8) (t : Fin 2048) (g : Fin 8)
    (d : Fin 128) : gate u v (ix2 (rowOf b t) ⟨128 * g.val + d.val, by omega⟩) = u (ix4 b t g d) * v (ix4 b t g d) := by
  pointwise [gate]
  have e1 : (b.val * 2048 + t.val) / 2048 = b.val := by omega
  have e2 : (b.val * 2048 + t.val) % 2048 = t.val := by omega
  simp only [e1, e2]

theorem lastCols_at (p : FVec Ideal S8x2048x5248 .f32) (b : Fin 8) (t : Fin 2048) (n : Fin 128) :
    lastCols p (ix2 (rowOf b t) n) = p (ix3 b t ⟨5120 + n.val, by omega⟩) := by
  pointwise [lastCols]
  have e1 : (b.val * 2048 + t.val) / 2048 = b.val := by omega
  have e2 : (b.val * 2048 + t.val) % 2048 = t.val := by omega
  simp only [e1, e2]

end Cert.InprojRefIdeal.Qkv

end
-- ==== Proof.InprojStrips.lean ====
/- The input projection's first scratch buffer: the normalised and modulated rows of the block. -/
module

public import proofs.«01_k».proof.Proof.Gen.InprojIdeal.Value
public import proofs.«01_k».proof.Proof.InprojRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

variable (m : (ℓ : Loc nD τ sig) → Buf (Elt Ideal) ℓ)

/-- The pieces one point's run stores. -/
abbrev runAt (c : Dev nD) (t : Fin cfg0.N) :=
  kernelRun0_A (F := Ideal) c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t)

/-- The scratch buffer of the normalised rows, after its stores. -/
def hScr (c : Dev nD) (t : Fin cfg0.N) : Vec Ideal S512x2048 .bf16 := View.canon (runAt m c t).2.2.2.1

/-- The scratch buffer of the normalised gating values, after its stores. -/
def vScr (c : Dev nD) (t : Fin cfg0.N) : Vec Ideal S512x1024 .bf16 := View.canon (runAt m c t).2.2.2.2.1

/-- The scratch buffer of the mixed gating values, after its stores. -/
def zScr (c : Dev nD) (t : Fin cfg0.N) : Vec Ideal S512x1024 .f32 := View.canon (runAt m c t).2.2.2.2.2.1

/-- The first scratch buffer holds the normalised rows of the point's block. -/
theorem hScr_at (c : Dev nD) (t : Fin cfg0.N) (r : Fin 512) (d : Fin 2048) : hScr m c t (ix2 r d)
    = normed (fun e => iblk m c 0 t (ix2 r e)) (fun e => iblk m c 2 t (ix2 0 e)) (fun e => iblk m c 1 t (ix3 0 1 e))
        (fun e => iblk m c 1 t (ix3 0 0 e)) d := by
  unfold hScr runAt; frame_out
  generalize iblk m c 0 t = X
  generalize iblk m c 1 t = M
  generalize iblk m c 2 t = G
  canon_tiles z hz
  all_goals
    idx_vars z
    open_payloads
    pointwise [normed]
    blk_point []

end Cert.InprojIdeal.Qkv

end
-- ==== Proof.InprojNorm.lean ====
/- The input projection's second scratch buffer: the gating values, passed through the gate and normalised head by head. -/
module

public import proofs.«01_k».proof.Proof.Gen.InprojIdeal.Value
public import proofs.«01_k».proof.Proof.InprojStrips
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

variable (m : (ℓ : Loc nD τ sig) → Buf (Elt Ideal) ℓ)

/-- The product of the block's normalised rows with the whole weight. -/
def proj (c : Dev nD) (t : Fin cfg0.N) : FVec Ideal S512x5248 .f32 := k0_pay51 (hScr m c t) (iblk m c 3 t)

theorem proj_at (c : Dev nD) (t : Fin cfg0.N) (r : Fin 512) (n : Fin 5248) : proj m c t (ix2 r n)
    = ∑ e, normed (fun e => iblk m c 0 t (ix2 r e)) (fun e => iblk m c 2 t (ix2 0 e)) (fun e => iblk m c 1 t (ix3 0 1 e))
        (fun e => iblk m c 1 t (ix3 0 0 e)) e * iblk m c 3 t (ix2 n e) := by
  pointwise [proj, k0_pay51]
  simp only [hScr_at]

/-- A load of a whole buffer reads every entry where it is. -/
theorem whole_idx {a b : ℕ} (inb) : ∀ y : (⟨2, ![a, b]⟩ : Shape).Idx,
    (Rect.unit (s := ⟨2, ![a, b]⟩) ![0, 0] ![a, b] inb).toLoadRect.idx y = y := fun y => by
  refine funext fun k => Fin.ext ?_
  match k with
  | 0 => show 0 + 1 * (y 0).val = (y 0).val; omega
  | 1 => show 0 + 1 * (y 1).val = (y 1).val; omega

/-- The second scratch buffer holds the layer norms of the gated values' heads. -/
theorem vScr_at (c : Dev nD) (t : Fin cfg0.N) (r : Fin 512) (g : Fin 8) (d : Fin 128) :
    vScr m c t (ix2 r ⟨128 * g.val + d.val, by omega⟩)
    = layerNorm (fun e => gelu (proj m c t (ix2 r ⟨128 * g.val + e.val, by omega⟩)))
        (fun e => iblk m c 6 t (ix2 0 ⟨128 * g.val + e.val, by omega⟩)) d := by
  unfold vScr runAt; frame_out
  generalize hH : View.readCov (Val := Elt Ideal) (s := S512x2048) _ _ _ = H
  have eH : H = hScr m c t := by
    rw [← hH, View.readCov_eq_canon']
    unfold hScr runAt; frame_out
    exact funext fun y => congrArg _ (whole_idx _ y)
  unfold proj
  rw [← eH]
  clear hH eH
  generalize iblk m c 3 t = W
  generalize iblk m c 6 t = G
  canon_tiles z hz
  all_goals
    idx_vars z
    open_payloads
    pointwise [layerNorm, headRms, centred, gelu]
    blk_point []

end Cert.InprojIdeal.Qkv

end
-- ==== Proof.InprojMix.lean ====
/- The input projection's third scratch buffer: the gating values mixed along each chunk of 128 rows. -/
module

public import proofs.«01_k».proof.Proof.Gen.InprojIdeal.Value
public import proofs.«01_k».proof.Proof.InprojNorm
public import proofs.«01_k».proof.Proof.AttnMask
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

variable (m : (ℓ : Loc nD τ sig) → Buf (Elt Ideal) ℓ)

/-- The kernel's selection is the mask. -/
theorem masked_eq (s t : Fin 128) (w v : EReal) :
    (Scalar.select (IntOp.cmpi .sle (BitVec.ofNat 32 s.val) (BitVec.ofNat 32 t.val)) (w * v) 0 : EReal) = masked t s w * v := by
  rw [Cert.AttnIdeal.Soft.select_sle _ _ (by omega) (by omega)]
  unfold masked
  split
  · rfl
  · rw [zero_mul]

set_option maxHeartbeats 4000000 in
/-- The third scratch buffer holds the mixed values: per head and chunk the lower triangle of the weight times the chunk,
    plus the bias. -/
theorem zScr_at (c : Dev nD) (t : Fin cfg0.N) (k : Fin 4) (i : Fin 128) (g : Fin 8) (d : Fin 128) :
    zScr m c t (ix2 ⟨128 * k.val + i.val, by omega⟩ ⟨128 * g.val + d.val, by omega⟩)
    = mixedAt (fun s => iblk m c 7 t (ix3 g i s))
        (fun s => vScr m c t (ix2 ⟨128 * k.val + s.val, by omega⟩ ⟨128 * g.val + d.val, by omega⟩)) (iblk m c 8 t (ix2 g i)) i := by
  generalize hv : vScr m c t = V'
  unfold zScr runAt; frame_out
  simp only [View.readCov_eq_canon']
  generalize hV : View.canon (Val := Elt Ideal) (s := S512x1024) (e := .bf16) _ = V
  have eV : V = V' := by
    rw [← hV, ← hv]
    unfold vScr runAt; frame_out
    simp only [View.readCov_eq_canon']
  subst eV
  clear hV hv
  generalize iblk m c 7 t = W
  generalize iblk m c 8 t = B
  canon_tiles z hz
  all_goals
    idx_vars z
    open_payloads
    pointwise [mixedAt]
    obtain rfl : z0 = i := Fin.ext (by omega)
    refine congrArg₂ (fun a b : EReal => a + b) (Finset.sum_congr rfl fun x _ => (masked_eq x z0 _ _).trans ?_) ?_
    · refine congrArg₂ (fun a b : EReal => masked z0 x a * b) ?_ ?_
      · blk_point []
      · blk_point []
    · blk_point []

end Cert.InprojIdeal.Qkv

end
-- ==== Proof.InprojBlock.lean ====
/- What one point of the input projection's grid leaves in its three output blocks. -/
module

public import proofs.«01_k».proof.Proof.Gen.InprojIdeal.Value
public import proofs.«01_k».proof.Proof.InprojMix
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

variable (m : (ℓ : Loc nD τ sig) → Buf (Elt Ideal) ℓ)

/-- The forget columns of the product. -/
theorem out_f (c : Dev nD) (t : Fin cfg0.N) (r : Fin 512) (n : Fin 128) :
    (outsAt0 m c t).2.2 (ix2 r n) = proj m c t (ix2 r ⟨5120 + n.val, by omega⟩) := by
  unfold proj
  generalize hh : hScr m c t = h
  unfold outsAt0; frame_out
  generalize hH : View.readCov (Val := Elt Ideal) (s := S512x2048) _ _ _ = H
  have eH : H = h := by
    rw [← hH, ← hh, View.readCov_eq_canon']
    unfold hScr runAt; frame_out
    exact funext fun y => congrArg _ (whole_idx _ y)
  subst eH
  clear hH hh
  pointwise [k0_pay52]

set_option maxHeartbeats 4000000 in
/-- The gated columns times the mixed values. -/
theorem out_sgu (c : Dev nD) (t : Fin cfg0.N) (r : Fin 512) (n : Fin 1024) :
    (outsAt0 m c t).2.1 (ix2 r n) = gelu (proj m c t (ix2 r ⟨1024 + n.val, by omega⟩)) * zScr m c t (ix2 r n) := by
  generalize hz : zScr m c t = z
  unfold proj
  generalize hh : hScr m c t = h
  unfold outsAt0; frame_out
  generalize hH : View.readCov (Val := Elt Ideal) (s := S512x2048) _ _ _ = H
  have eH : H = h := by
    rw [← hH, ← hh, View.readCov_eq_canon']
    unfold hScr runAt; frame_out
    exact funext fun y => congrArg _ (whole_idx _ y)
  subst eH
  generalize hZ : View.readCov (Val := Elt Ideal) (s := S512x1024) (e := .f32) _ _ _ = Z
  have eZ : Z = z := by
    rw [← hZ, ← hz, View.readCov_eq_canon', ← hH]
    unfold zScr runAt; frame_out
    exact funext fun y => congrArg _ (whole_idx _ y)
  subst eZ
  clear hZ hz hH hh
  pointwise [k0_pay1, gelu]

/-- A query head. -/
theorem out_q (c : Dev nD) (t : Fin cfg0.N) (r : Fin 512) (g : Fin 8) (d : Fin 128) : (outsAt0 m c t).1 (ix2 r ⟨128 * g.val + d.val, by omega⟩)
    = headRms (fun e => proj m c t (ix2 r ⟨2048 + (128 * g.val + e.val), by omega⟩)) (fun e => iblk m c 4 t (ix2 0 e)) d
        * Ideal.ofBits .f32 0x3E0293EE#32 := by
  unfold proj
  generalize hh : hScr m c t = h
  unfold outsAt0; frame_out
  generalize hH : View.readCov (Val := Elt Ideal) (s := S512x2048) _ _ _ = H
  have eH : H = h := by
    rw [← hH, ← hh, View.readCov_eq_canon']
    unfold hScr runAt; frame_out
    exact funext fun y => congrArg _ (whole_idx _ y)
  subst eH
  clear hH hh
  generalize iblk m c 3 t = W
  generalize iblk m c 4 t = Q
  generalize iblk m c 5 t = K
  canon_tiles z hz using View.cover_of_tiledBy _ ![512, 128] (by sl_kernel_rfl) _
  all_goals
    idx_vars z
    first
      | exact absurd hz1 (by omega)
      | open_payloads
        pointwise [headRms]
        blk_point []

/-- A key head. -/
theorem out_k (c : Dev nD) (t : Fin cfg0.N) (r : Fin 512) (g : Fin 8) (d : Fin 128) : (outsAt0 m c t).1 (ix2 r ⟨1024 + (128 * g.val + d.val), by omega⟩)
    = headRms (fun e => proj m c t (ix2 r ⟨3072 + (128 * g.val + e.val), by omega⟩)) (fun e => iblk m c 5 t (ix2 0 e)) d := by
  unfold proj
  generalize hh : hScr m c t = h
  unfold outsAt0; frame_out
  generalize hH : View.readCov (Val := Elt Ideal) (s := S512x2048) _ _ _ = H
  have eH : H = h := by
    rw [← hH, ← hh, View.readCov_eq_canon']
    unfold hScr runAt; frame_out
    exact funext fun y => congrArg _ (whole_idx _ y)
  subst eH
  clear hH hh
  generalize iblk m c 3 t = W
  generalize iblk m c 4 t = Q
  generalize iblk m c 5 t = K
  canon_tiles z hz using View.cover_of_tiledBy _ ![512, 128] (by sl_kernel_rfl) _
  all_goals
    idx_vars z
    first
      | exact absurd hz1 (by omega)
      | open_payloads
        pointwise [headRms]
        blk_point []

/-- A value column. -/
theorem out_v (c : Dev nD) (t : Fin cfg0.N) (r : Fin 512) (n : Fin 1024) : (outsAt0 m c t).1 (ix2 r ⟨2048 + n.val, by omega⟩)
    = proj m c t (ix2 r ⟨4096 + n.val, by omega⟩) := by
  unfold proj
  generalize hh : hScr m c t = h
  unfold outsAt0; frame_out
  generalize hH : View.readCov (Val := Elt Ideal) (s := S512x2048) _ _ _ = H
  have eH : H = h := by
    rw [← hH, ← hh, View.readCov_eq_canon']
    unfold hScr runAt; frame_out
    exact funext fun y => congrArg _ (whole_idx _ y)
  subst eH
  clear hH hh
  generalize iblk m c 3 t = W
  generalize iblk m c 4 t = Q
  generalize iblk m c 5 t = K
  canon_tiles z hz using View.cover_of_tiledBy _ ![512, 128] (by sl_kernel_rfl) _
  all_goals
    idx_vars z
    first
      | exact absurd hz1 (by omega)
      | open_payloads
        pointwise []
        blk_point []

end Cert.InprojIdeal.Qkv

end
-- ==== Proof.InprojSpec.lean ====
/- What the input projection computes, entry by entry. -/
module

public import proofs.«01_k».proof.Proof.Gen.InprojIdeal.Value
public import proofs.«01_k».proof.Proof.InprojRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

/-- The sequence a row belongs to. -/
abbrev seqOf (R : Fin 16384) : Fin 8 := ⟨R.val / 2048, by omega⟩

/-- The place of a row in its chunk. -/
abbrev posOf (R : Fin 16384) : Fin 128 := ⟨R.val % 128, by omega⟩

/-- Row `s` of the chunk a row belongs to. -/
abbrev rowIn (R : Fin 16384) (s : Fin 128) : Fin 16384 := ⟨128 * (R.val / 128) + s.val, by omega⟩

/-- The head a column belongs to. -/
abbrev headOf (n : Fin 1024) : Fin 8 := ⟨n.val / 128, by omega⟩

/-- The place of a column in its head. -/
abbrev laneOf (n : Fin 1024) : Fin 128 := ⟨n.val % 128, by omega⟩

/-- Column `d` of head `g`. -/
abbrev colOf (g : Fin 8) (d : Fin 128) : Fin 1024 := ⟨128 * g.val + d.val, by omega⟩

theorem headOf_col (g : Fin 8) (d : Fin 128) : headOf (colOf g d) = g := Fin.ext (by show (128 * g.val + d.val) / 128 = g.val; omega)

theorem laneOf_col (g : Fin 8) (d : Fin 128) : laneOf (colOf g d) = d := Fin.ext (by show (128 * g.val + d.val) % 128 = d.val; omega)

theorem exists_col (n : Fin 1024) : ∃ g d, n = colOf g d := ⟨headOf n, laneOf n, Fin.ext (by show n.val = 128 * (n.val / 128) + n.val % 128; omega)⟩

/-- The normalised and modulated row `R`. -/
def hRow (x : FVec Ideal S16384x2048 .f32) (mo : FVec Ideal S8x6x2048 .f32) (gm : FVec Ideal S1x2048 .f32) (R : Fin 16384) :
    Fin 2048 → EReal :=
  normed (fun e => x (ix2 R e)) (fun e => gm (ix2 0 e)) (fun e => mo (ix3 (seqOf R) 1 e)) (fun e => mo (ix3 (seqOf R) 0 e))

/-- Column `n` of the product of row `R` with the weight. -/
def prod (x : FVec Ideal S16384x2048 .f32) (mo : FVec Ideal S8x6x2048 .f32) (gm : FVec Ideal S1x2048 .f32)
    (w : FVec Ideal S5248x2048 .bf16) (R : Fin 16384) (n : Fin 5248) : EReal := ∑ e, hRow x mo gm R e * w (ix2 n e)

variable (P : Fin 16384 → Fin 5248 → EReal)

/-- A query: the head's root-mean-square norm, scaled for a softmax in base two. -/
def queryAt (gq : FVec Ideal S1x128 .f32) (R : Fin 16384) (g : Fin 8) (d : Fin 128) : EReal :=
  headRms (fun e => P R ⟨2048 + (128 * g.val + e.val), by omega⟩) (fun e => gq (ix2 0 e)) d * Ideal.ofBits .f32 0x3E0293EE#32

/-- A key: the head's root-mean-square norm. -/
def keyAt (gk : FVec Ideal S1x128 .f32) (R : Fin 16384) (g : Fin 8) (d : Fin 128) : EReal :=
  headRms (fun e => P R ⟨3072 + (128 * g.val + e.val), by omega⟩) (fun e => gk (ix2 0 e)) d

/-- A gating value: the head's layer norm behind the gate. -/
def gatingAt (gs : FVec Ideal S1x1024 .f32) (R : Fin 16384) (g : Fin 8) (d : Fin 128) : EReal :=
  layerNorm (fun e => gelu (P R ⟨128 * g.val + e.val, by omega⟩)) (fun e => gs (ix2 0 (colOf g e))) d

/-- A gating value mixed along its chunk. -/
def mixAt (gs : FVec Ideal S1x1024 .f32) (ws : FVec Ideal S8x128x128 .f32) (bs : FVec Ideal S8x128 .f32) (R : Fin 16384)
    (g : Fin 8) (d : Fin 128) : EReal :=
  mixedAt (fun s => ws (ix3 g (posOf R) s)) (fun s => gatingAt P gs (rowIn R s) g d) (bs (ix2 g (posOf R))) (posOf R)

/-- The gated columns times the mixed values. -/
def sguAt (gs : FVec Ideal S1x1024 .f32) (ws : FVec Ideal S8x128x128 .f32) (bs : FVec Ideal S8x128 .f32) (R : Fin 16384)
    (n : Fin 1024) : EReal :=
  gelu (P R ⟨1024 + n.val, by omega⟩) * mixAt P gs ws bs R (headOf n) (laneOf n)

/-- Queries, keys and values, side by side. -/
def qkvAt (gq gk : FVec Ideal S1x128 .f32) (R : Fin 16384) (n : Fin 3072) : EReal :=
  if h : n.val < 1024 then queryAt P gq R (headOf ⟨n.val, h⟩) (laneOf ⟨n.val, h⟩)
  else if h' : n.val < 2048 then keyAt P gk R (headOf ⟨n.val - 1024, by omega⟩) (laneOf ⟨n.val - 1024, by omega⟩)
  else P R ⟨2048 + n.val, by omega⟩

theorem qkvAt_query (gq gk : FVec Ideal S1x128 .f32) (R : Fin 16384) (g : Fin 8) (d : Fin 128) :
    qkvAt P gq gk R ⟨128 * g.val + d.val, by omega⟩ = queryAt P gq R g d := by
  have h : 128 * g.val + d.val < 1024 := by omega
  unfold qkvAt
  rw [dif_pos h]
  exact congrArg₂ (queryAt P gq R) (headOf_col g d) (laneOf_col g d)

theorem qkvAt_key (gq gk : FVec Ideal S1x128 .f32) (R : Fin 16384) (g : Fin 8) (d : Fin 128) :
    qkvAt P gq gk R ⟨1024 + (128 * g.val + d.val), by omega⟩ = keyAt P gk R g d := by
  have h : ¬ 1024 + (128 * g.val + d.val) < 1024 := by omega
  have h' : 1024 + (128 * g.val + d.val) < 2048 := by omega
  have e : (⟨1024 + (128 * g.val + d.val) - 1024, by omega⟩ : Fin 1024) = colOf g d := Fin.ext (by
    show 1024 + (128 * g.val + d.val) - 1024 = 128 * g.val + d.val; omega)
  unfold qkvAt
  rw [dif_neg h, dif_pos h', e]
  exact congrArg₂ (keyAt P gk R) (headOf_col g d) (laneOf_col g d)

theorem qkvAt_value (gq gk : FVec Ideal S1x128 .f32) (R : Fin 16384) (n : Fin 1024) :
    qkvAt P gq gk R ⟨2048 + n.val, by omega⟩ = P R ⟨4096 + n.val, by omega⟩ := by
  have h : ¬ 2048 + n.val < 1024 := by omega
  have h' : ¬ 2048 + n.val < 2048 := by omega
  unfold qkvAt
  rw [dif_neg h, dif_neg h']
  exact congrArg (P R) (Fin.ext (by show 2048 + (2048 + n.val) = 4096 + n.val; omega))

/-- A column of the first result is a query's, a key's or a value's. -/
theorem exists_qkv (n : Fin 3072) : (∃ (g : Fin 8) (d : Fin 128), n = ⟨128 * g.val + d.val, by omega⟩)
    ∨ (∃ (g : Fin 8) (d : Fin 128), n = ⟨1024 + (128 * g.val + d.val), by omega⟩) ∨ ∃ v : Fin 1024, n = ⟨2048 + v.val, by omega⟩ := by
  by_cases h : n.val < 1024
  · obtain ⟨g, d, e⟩ := exists_col ⟨n.val, h⟩
    exact .inl ⟨g, d, Fin.ext (Fin.mk.inj e)⟩
  · by_cases h' : n.val < 2048
    · obtain ⟨g, d, e⟩ := exists_col ⟨n.val - 1024, by omega⟩
      have e' : n.val - 1024 = 128 * g.val + d.val := Fin.mk.inj e
      exact .inr (.inl ⟨g, d, Fin.ext (by show n.val = 1024 + (128 * g.val + d.val); omega)⟩)
    · exact .inr (.inr ⟨⟨n.val - 2048, by omega⟩, Fin.ext (by show n.val = 2048 + (n.val - 2048); omega)⟩)

/-- The first result. -/
def qkv (gq gk : FVec Ideal S1x128 .f32) : FVec Ideal S16384x3072 .bf16 := fun j => qkvAt P gq gk (j 0) (j 1)

/-- The second result. -/
def sgu (gs : FVec Ideal S1x1024 .f32) (ws : FVec Ideal S8x128x128 .f32) (bs : FVec Ideal S8x128 .f32) :
    FVec Ideal S16384x1024 .bf16 := fun j => sguAt P gs ws bs (j 0) (j 1)

/-- The forget column `n` of row `R`. -/
def forgetAt (R : Fin 16384) (n : Fin 128) : EReal := P R ⟨5120 + n.val, by omega⟩

/-- The third result. -/
def forget : FVec Ideal S16384x128 .f32 := fun j => forgetAt P (j 0) (j 1)

end Cert.InprojIdeal.Qkv

end
-- ==== Proof.InprojValue.lean ====
/- The three arrays the input projection leaves. -/
module

public import proofs.«01_k».proof.Proof.Gen.InprojIdeal.Value
public import proofs.«01_k».proof.Proof.InprojBlock
public import proofs.«01_k».proof.Proof.InprojSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Qkv

open Cert.InprojIdeal Cert.InprojIdeal.Gen Cert.InprojRow Cert.FfnRow

variable (m : (ℓ : Loc nD τ sig) → Buf (Elt Ideal) ℓ)

/-- Argument 0 of the program. -/
abbrev arg0 (c : Dev nD) : FVec Ideal S16384x2048 .f32 := m ((c : Thread nD τ).loc main_arg0)

/-- Argument 1 of the program. -/
abbrev arg1 (c : Dev nD) : FVec Ideal S8x6x2048 .f32 := m ((c : Thread nD τ).loc main_arg1)

/-- Argument 2 of the program. -/
abbrev arg2 (c : Dev nD) : FVec Ideal S1x2048 .f32 := m ((c : Thread nD τ).loc main_arg2)

/-- Argument 3 of the program. -/
abbrev arg3 (c : Dev nD) : FVec Ideal S5248x2048 .bf16 := m ((c : Thread nD τ).loc main_arg3)

/-- Argument 4 of the program. -/
abbrev arg4 (c : Dev nD) : FVec Ideal S1x128 .f32 := m ((c : Thread nD τ).loc main_arg4)

/-- Argument 5 of the program. -/
abbrev arg5 (c : Dev nD) : FVec Ideal S1x128 .f32 := m ((c : Thread nD τ).loc main_arg5)

/-- Argument 6 of the program. -/
abbrev arg6 (c : Dev nD) : FVec Ideal S1x1024 .f32 := m ((c : Thread nD τ).loc main_arg6)

/-- Argument 7 of the program. -/
abbrev arg7 (c : Dev nD) : FVec Ideal S8x128x128 .f32 := m ((c : Thread nD τ).loc main_arg7)

/-- Argument 8 of the program. -/
abbrev arg8 (c : Dev nD) : FVec Ideal S8x128 .f32 := m ((c : Thread nD τ).loc main_arg8)

/-- The product of the arguments. -/
abbrev prodOf (c : Dev nD) : Fin 16384 → Fin 5248 → EReal := prod (arg0 m c) (arg1 m c) (arg2 m c) (arg3 m c)

/-- The block each window holds at grid point `t`. -/
theorem idx : ∀ t : Fin cfg0.N, win0_0.index t = ![t.val, 0] ∧ win0_1.index t = ![t.val / 4, 0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] ∧ win0_10.index t = ![t.val, 0]
    ∧ win0_11.index t = ![t.val, 0] :=
  (by decide +kernel : ∀ t : Fin grid0.N, _)

/-- The row of the array that row `r` of point `t`'s block is. -/
abbrev rowAt (n : ℕ) (hn : n < 32) (r : Fin 512) : Fin 16384 := ⟨512 * n + r.val, by omega⟩

theorem blk_x (c : Dev nD) (t : Fin cfg0.N) (r : Fin 512) (e : Fin 2048) : iblk m c 0 t (ix2 r e) = arg0 m c (ix2 (rowAt t.val t.isLt r) e) := by
  blk_point [iblk, V, idx t]

theorem blk_mod (c : Dev nD) (t : Fin cfg0.N) (r : Fin 512) (i : Fin 6) (e : Fin 2048) : iblk m c 1 t (ix3 0 i e) = arg1 m c (ix3 (seqOf (rowAt t.val t.isLt r)) i e) := by
  blk_point [iblk, V, idx t]

theorem blk_gm (c : Dev nD) (t : Fin cfg0.N) (e : Fin 2048) : iblk m c 2 t (ix2 0 e) = arg2 m c (ix2 0 e) := by
  blk_point [iblk, V, idx t]

theorem blk_w (c : Dev nD) (t : Fin cfg0.N) (n : Fin 5248) (e : Fin 2048) : iblk m c 3 t (ix2 n e) = arg3 m c (ix2 n e) := by
  blk_point [iblk, V, idx t]

theorem blk_gq (c : Dev nD) (t : Fin cfg0.N) (e : Fin 128) : iblk m c 4 t (ix2 0 e) = arg4 m c (ix2 0 e) := by
  blk_point [iblk, V, idx t]

theorem blk_gk (c : Dev nD) (t : Fin cfg0.N) (e : Fin 128) : iblk m c 5 t (ix2 0 e) = arg5 m c (ix2 0 e) := by
  blk_point [iblk, V, idx t]

theorem blk_gs (c : Dev nD) (t : Fin cfg0.N) (e : Fin 1024) : iblk m c 6 t (ix2 0 e) = arg6 m c (ix2 0 e) := by
  blk_point [iblk, V, idx t]

theorem blk_ws (c : Dev nD) (t : Fin cfg0.N) (g : Fin 8) (i s : Fin 128) : iblk m c 7 t (ix3 g i s) = arg7 m c (ix3 g i s) := by
  blk_point [iblk, V, idx t]

theorem blk_bs (c : Dev nD) (t : Fin cfg0.N) (g : Fin 8) (i : Fin 128) : iblk m c 8 t (ix2 g i) = arg8 m c (ix2 g i) := by
  blk_point [iblk, V, idx t]

/-- The block's product is the array's. -/
theorem proj_blk (c : Dev nD) (t : Fin cfg0.N) (r : Fin 512) (n : Fin 5248) :
    proj m c t (ix2 r n) = prodOf m c (rowAt t.val t.isLt r) n := by
  rw [proj_at]
  show _ = ∑ e, hRow (arg0 m c) (arg1 m c) (arg2 m c) (rowAt t.val t.isLt r) e * arg3 m c (ix2 n e)
  refine Finset.sum_congr rfl fun e _ => ?_
  rw [hRow, funext fun e => blk_x m c t r e, funext fun e => blk_gm m c t e, funext fun e => blk_mod m c t r 1 e,
    funext fun e => blk_mod m c t r 0 e, blk_w m c t n e]

/-- The second scratch buffer holds the gating values of the block's rows. -/
theorem vScr_blk (c : Dev nD) (t : Fin cfg0.N) (r : Fin 512) (g : Fin 8) (d : Fin 128) :
    vScr m c t (ix2 r (colOf g d)) = gatingAt (prodOf m c) (arg6 m c) (rowAt t.val t.isLt r) g d := by
  refine (vScr_at m c t r g d).trans ?_
  unfold gatingAt
  exact congrArg₂ (fun v s => layerNorm v s d) (funext fun e : Fin 128 => congrArg gelu (proj_blk m c t r ⟨128 * g.val + e.val, by omega⟩))
    (funext fun e : Fin 128 => blk_gs m c t (colOf g e))

/-- The third scratch buffer holds the mixed values of the block's rows. -/
theorem zScr_blk (c : Dev nD) (t : Fin cfg0.N) (r : Fin 512) (g : Fin 8) (d : Fin 128) :
    zScr m c t (ix2 r (colOf g d)) = mixAt (prodOf m c) (arg6 m c) (arg7 m c) (arg8 m c) (rowAt t.val t.isLt r) g d := by
  obtain ⟨k, i, rfl⟩ : ∃ (k : Fin 4) (i : Fin 128), r = ⟨128 * k.val + i.val, by omega⟩ :=
    ⟨⟨r.val / 128, by omega⟩, ⟨r.val % 128, by omega⟩, Fin.ext (by show r.val = 128 * (r.val / 128) + r.val % 128; omega)⟩
  have ep : posOf (rowAt t.val t.isLt ⟨128 * k.val + i.val, by omega⟩) = i := Fin.ext (by
    show (512 * t.val + (128 * k.val + i.val)) % 128 = i.val; omega)
  have er : ∀ s : Fin 128, rowIn (rowAt t.val t.isLt ⟨128 * k.val + i.val, by omega⟩) s
      = rowAt t.val t.isLt ⟨128 * k.val + s.val, by omega⟩ := fun s => Fin.ext (by
    show 128 * ((512 * t.val + (128 * k.val + i.val)) / 128) + s.val = 512 * t.val + (128 * k.val + s.val); omega)
  refine (zScr_at m c t k i g d).trans ?_
  unfold mixAt
  rw [ep, funext fun s : Fin 128 => blk_ws m c t g i s, blk_bs m c t g i]
  refine congrArg (fun v => mixedAt (fun s => arg7 m c (ix3 g i s)) v (arg8 m c (ix2 g i)) i) (funext fun s => ?_)
  rw [er]
  exact vScr_blk m c t _ g d

theorem qkv_blk (c : Dev nD) (t : Fin cfg0.N) (r : Fin 512) (n : Fin 3072) :
    (outsAt0 m c t).1 (ix2 r n) = qkvAt (prodOf m c) (arg4 m c) (arg5 m c) (rowAt t.val t.isLt r) n := by
  obtain ⟨g, d, rfl⟩ | ⟨g, d, rfl⟩ | ⟨v, rfl⟩ := exists_qkv n
  · rw [out_q, qkvAt_query, queryAt, funext fun e : Fin 128 => proj_blk m c t r ⟨2048 + (128 * g.val + e.val), by omega⟩,
      funext fun e : Fin 128 => blk_gq m c t e]
  · rw [out_k, qkvAt_key, keyAt, funext fun e : Fin 128 => proj_blk m c t r ⟨3072 + (128 * g.val + e.val), by omega⟩,
      funext fun e : Fin 128 => blk_gk m c t e]
  · rw [out_v, qkvAt_value, proj_blk]

theorem sgu_blk (c : Dev nD) (t : Fin cfg0.N) (r : Fin 512) (n : Fin 1024) :
    (outsAt0 m c t).2.1 (ix2 r n) = sguAt (prodOf m c) (arg6 m c) (arg7 m c) (arg8 m c) (rowAt t.val t.isLt r) n := by
  obtain ⟨g, d, rfl⟩ := exists_col n
  rw [out_sgu, proj_blk, zScr_blk, sguAt, headOf_col, laneOf_col]

theorem forget_blk (c : Dev nD) (t : Fin cfg0.N) (r : Fin 512) (n : Fin 128) :
    (outsAt0 m c t).2.2 (ix2 r n) = forgetAt (prodOf m c) (rowAt t.val t.isLt r) n := by
  rw [out_f, proj_blk, forgetAt]

/-- What grid point `t` leaves at `y` of this result is the result where `y` sits in the array. -/
theorem point_qkv (c : Dev nD) (t : Fin cfg0.N) (y) : (outsAt0 m c t).1 y
    = qkv (prodOf m c) (arg4 m c) (arg5 m c) (((cfg0.win 9).blk t).view.emb y) := by
  have ey : y = ix2 (y 0) (y 1) := funext fun a => match a with | 0 => rfl | 1 => rfl
  have ez : ((cfg0.win 9).blk t).view.emb y = ix2 (rowAt t.val t.isLt (y 0)) (y 1) := by
    blk_ext [idx t]
  rw [ez]
  exact (congrArg (outsAt0 m c t).1 ey).trans (qkv_blk m c t (y 0) (y 1))

/-- The array the kernel leaves in window 9. -/
theorem final_qkv (c : Dev nD) : (dats m 0 c).arrAt 9 cfg0.N = qkv (prodOf m c) (arg4 m c) (arg5 m c) := by
  refine (dats m 0 c).arrAt_eq_of_covers 9 _ (by decide +kernel) fun t _ y => ?_
  blk_simp; rw [after0_9]
  exact point_qkv m c t y

/-- What grid point `t` leaves at `y` of this result is the result where `y` sits in the array. -/
theorem point_sgu (c : Dev nD) (t : Fin cfg0.N) (y) : (outsAt0 m c t).2.1 y
    = sgu (prodOf m c) (arg6 m c) (arg7 m c) (arg8 m c) (((cfg0.win 10).blk t).view.emb y) := by
  have ey : y = ix2 (y 0) (y 1) := funext fun a => match a with | 0 => rfl | 1 => rfl
  have ez : ((cfg0.win 10).blk t).view.emb y = ix2 (rowAt t.val t.isLt (y 0)) (y 1) := by
    blk_ext [idx t]
  rw [ez]
  exact (congrArg (outsAt0 m c t).2.1 ey).trans (sgu_blk m c t (y 0) (y 1))

/-- The array the kernel leaves in window 10. -/
theorem final_sgu (c : Dev nD) : (dats m 0 c).arrAt 10 cfg0.N = sgu (prodOf m c) (arg6 m c) (arg7 m c) (arg8 m c) := by
  refine (dats m 0 c).arrAt_eq_of_covers 10 _ (by decide +kernel) fun t _ y => ?_
  blk_simp; rw [after0_10]
  exact point_sgu m c t y

/-- What grid point `t` leaves at `y` of this result is the result where `y` sits in the array. -/
theorem point_forget (c : Dev nD) (t : Fin cfg0.N) (y) : (outsAt0 m c t).2.2 y
    = forget (prodOf m c) (((cfg0.win 11).blk t).view.emb y) := by
  have ey : y = ix2 (y 0) (y 1) := funext fun a => match a with | 0 => rfl | 1 => rfl
  have ez : ((cfg0.win 11).blk t).view.emb y = ix2 (rowAt t.val t.isLt (y 0)) (y 1) := by
    blk_ext [idx t]
  rw [ez]
  exact (congrArg (outsAt0 m c t).2.2 ey).trans (forget_blk m c t (y 0) (y 1))

/-- The array the kernel leaves in window 11. -/
theorem final_forget (c : Dev nD) : (dats m 0 c).arrAt 11 cfg0.N = forget (prodOf m c) := by
  refine (dats m 0 c).arrAt_eq_of_covers 11 _ (by decide +kernel) fun t _ y => ?_
  blk_simp; rw [after0_11]
  exact point_forget m c t y

end Cert.InprojIdeal.Qkv

end
-- ==== Proof.InprojClaim.lean ====
/- The input projection: the kernel and the reference compute the same arrays over the exact numbers. -/
module

public import proofs.«01_k».proof.Proof.Gen.InprojIdeal.Value
public import proofs.«01_k».proof.Proof.Gen.InprojRefIdeal.Run
public import proofs.«01_k».proof.Proof.InprojRef
public import proofs.«01_k».proof.Proof.InprojValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojRefIdeal.Qkv

open Cert.InprojRefIdeal Cert.InprojRefIdeal.Gen Cert.InprojRow Cert.FfnRow
open Cert.InprojIdeal.Qkv (seqOf posOf rowIn headOf laneOf colOf hRow prod queryAt keyAt gatingAt mixAt sguAt qkv sgu forget qkvAt
  forgetAt exists_col exists_qkv)
open Cert.FfnRefIdeal.Norm (rowOf factor factor_at zero_at one_at)

/-- The product of the reference's normalised rows with the weight. -/
def whole (a0 : FVec Ideal S16384x2048 .f32) (a1 : FVec Ideal S8x6x2048 .f32) (a2 : FVec Ideal S1x2048 .f32)
    (a3 : FVec Ideal S5248x2048 .bf16) : FVec Ideal S8x2048x5248 .f32 :=
  product (rows a0 a1 a2 (factor a0 (constant S_ .f32 0x00000000#32) (constant S_ .f32 0x45000000#32) (constant S_ .f32 0x358637BD#32))
    (constant S_ .f32 0x3F800000#32)) a3

/-- The norm of the reference's heads `v`, the mean square taken of `c`. -/
def norm (v c : FVec Ideal S8x2048x8x128 .f32) : FVec Ideal S8x2048x8x128 .f32 :=
  scaled v c (constant S_ .f32 0x00000000#32) (constant S_ .f32 0x43000000#32) (constant S_ .f32 0x358637BD#32)

/-- The reference's gate. -/
def gelued (v : FVec Ideal S8x2048x1024 .f32) : FVec Ideal S8x2048x8x128 .f32 :=
  heads (gated v (constant S_ .f32 0x3D372713#32) (constant S_ .f32 0x3F4C422A#32) (constant S_ .f32 0x3F800000#32)
    (constant S_ .f32 0x3F000000#32))

/-- The reference's heads less their means. -/
def centre (v : FVec Ideal S8x2048x8x128 .f32) : FVec Ideal S8x2048x8x128 .f32 :=
  lessMean v (constant S_ .f32 0x00000000#32) (constant S_ .f32 0x43000000#32)

/-- The reference's queries. -/
def queries (p : FVec Ideal S8x2048x5248 .f32) (a4 : FVec Ideal S1x128 .f32) : FVec Ideal S8x2048x8x128 .f32 :=
  times (gained (norm (heads (part2 p)) (heads (part2 p))) a4) (constant S_ .f32 0x3E0293EE#32)

/-- The reference's keys. -/
def keys (p : FVec Ideal S8x2048x5248 .f32) (a5 : FVec Ideal S1x128 .f32) : FVec Ideal S8x2048x8x128 .f32 :=
  gained (norm (heads (part3 p)) (heads (part3 p))) a5

/-- The reference's gating values. -/
def gatings (p : FVec Ideal S8x2048x5248 .f32) (a6 : FVec Ideal S1x1024 .f32) : FVec Ideal S8x2048x8x128 .f32 :=
  gainedEach (norm (centre (gelued (part0 p))) (centre (gelued (part0 p)))) a6

/-- The reference's mixed gating values. -/
def mixes (p : FVec Ideal S8x2048x5248 .f32) (a6 : FVec Ideal S1x1024 .f32) (a7 : FVec Ideal S8x128x128 .f32)
    (a8 : FVec Ideal S8x128 .f32) : FVec Ideal S8x2048x8x128 .f32 :=
  mixed (gatings p a6) (under a7 (lower (constant S_ .f32 0x3F800000#32) (constant S_ .f32 0x00000000#32))) a8

/-- The reference's first result. -/
def wholeQkv (p : FVec Ideal S8x2048x5248 .f32) (a4 a5 : FVec Ideal S1x128 .f32) : FVec Ideal S16384x3072 .bf16 :=
  beside (queries p a4) (keys p a5) (part4 p)

/-- The reference's second result. -/
def wholeSgu (p : FVec Ideal S8x2048x5248 .f32) (a6 : FVec Ideal S1x1024 .f32) (a7 : FVec Ideal S8x128x128 .f32)
    (a8 : FVec Ideal S8x128 .f32) : FVec Ideal S16384x1024 .bf16 :=
  gate (gelued (part1 p)) (mixes p a6 a7 a8)

theorem exists_row (R : Fin 16384) : ∃ (b : Fin 8) (t : Fin 2048), R = rowOf b t :=
  ⟨⟨R.val / 2048, by omega⟩, ⟨R.val % 2048, by omega⟩, Fin.ext (by simp only []; omega)⟩

theorem exists_place (t : Fin 2048) : ∃ (k : Fin 16) (i : Fin 128), t = ⟨128 * k.val + i.val, by omega⟩ :=
  ⟨⟨t.val / 128, by omega⟩, ⟨t.val % 128, by omega⟩, Fin.ext (by simp only []; omega)⟩

/-- The reference's product is the kernel's. -/
theorem whole_at (a0 : FVec Ideal S16384x2048 .f32) (a1 : FVec Ideal S8x6x2048 .f32) (a2 : FVec Ideal S1x2048 .f32)
    (a3 : FVec Ideal S5248x2048 .bf16) (b : Fin 8) (t : Fin 2048) (n : Fin 5248) :
    whole a0 a1 a2 a3 (ix3 b t n) = prod a0 a1 a2 a3 (rowOf b t) n := by
  have e : seqOf (rowOf b t) = b := Fin.ext (by show (b.val * 2048 + t.val) / 2048 = b.val; omega)
  unfold whole
  rw [product_at]
  refine Finset.sum_congr rfl fun d _ => congrArg (fun x : EReal => x * a3 (ix2 n d)) ?_
  rw [rows_at, factor_at, zero_at, one_at, zero_add, hRow, normed, e]
  rw [mul_assoc (a0 (ix2 (rowOf b t) d) * _)]
  rfl

theorem norm_at (v c : FVec Ideal S8x2048x8x128 .f32) (b : Fin 8) (t : Fin 2048) (g : Fin 8) (d : Fin 128) :
    norm v c (ix4 b t g d) = v (ix4 b t g d) * Ideal.rsqrt (Ideal.div (∑ i : Fin 128, c (ix4 b t g i) * c (ix4 b t g i))
      (Ideal.ofBits .f32 0x43000000#32) + Ideal.ofBits .f32 0x358637BD#32) := by
  unfold norm
  rw [scaled_at, zero_at, zero_add]
  rfl

theorem gelued_at (v : FVec Ideal S8x2048x1024 .f32) (b : Fin 8) (t : Fin 2048) (g : Fin 8) (d : Fin 128) :
    gelued v (ix4 b t g d) = gelu (v (ix3 b t ⟨128 * g.val + d.val, by omega⟩)) := by
  unfold gelued
  rw [heads_at, gated_at, mul_assoc (v _) (v _) (v _)]
  rfl

theorem centre_at (v : FVec Ideal S8x2048x8x128 .f32) (b : Fin 8) (t : Fin 2048) (g : Fin 8) (d : Fin 128) :
    centre v (ix4 b t g d) = centred (fun e => v (ix4 b t g e)) d := by
  unfold centre
  rw [lessMean_at, zero_at, zero_add]
  rfl

section

variable (p : FVec Ideal S8x2048x5248 .f32) (P : Fin 16384 → Fin 5248 → EReal)
  (hp : ∀ (b : Fin 8) (t : Fin 2048) (n : Fin 5248), p (ix3 b t n) = P (rowOf b t) n)

include hp

theorem queries_at (a4 : FVec Ideal S1x128 .f32) (b : Fin 8) (t : Fin 2048) (g : Fin 8) (d : Fin 128) :
    queries p a4 (ix4 b t g d) = queryAt P a4 (rowOf b t) g d := by
  unfold queries
  rw [times_at, gained_at, norm_at]
  simp only [heads_at, part2_at, hp]
  rfl

theorem keys_at (a5 : FVec Ideal S1x128 .f32) (b : Fin 8) (t : Fin 2048) (g : Fin 8) (d : Fin 128) :
    keys p a5 (ix4 b t g d) = keyAt P a5 (rowOf b t) g d := by
  unfold keys
  rw [gained_at, norm_at]
  simp only [heads_at, part3_at, hp]
  rfl

theorem gatings_at (a6 : FVec Ideal S1x1024 .f32) (b : Fin 8) (t : Fin 2048) (g : Fin 8) (d : Fin 128) :
    gatings p a6 (ix4 b t g d) = gatingAt P a6 (rowOf b t) g d := by
  unfold gatings
  rw [gainedEach_at, norm_at]
  simp only [centre_at, gelued_at, part0_at, hp]
  rfl

theorem mixes_at (a6 : FVec Ideal S1x1024 .f32) (a7 : FVec Ideal S8x128x128 .f32) (a8 : FVec Ideal S8x128 .f32) (b : Fin 8)
    (t : Fin 2048) (g : Fin 8) (d : Fin 128) : mixes p a6 a7 a8 (ix4 b t g d) = mixAt P a6 a7 a8 (rowOf b t) g d := by
  obtain ⟨k, i, rfl⟩ := exists_place t
  have ei : posOf (rowOf b ⟨128 * k.val + i.val, by omega⟩) = i :=
    Fin.ext (by show (b.val * 2048 + (128 * k.val + i.val)) % 128 = i.val; omega)
  have er : ∀ s : Fin 128, rowIn (rowOf b ⟨128 * k.val + i.val, by omega⟩) s = rowOf b ⟨128 * k.val + s.val, by omega⟩ := fun s =>
    Fin.ext (by show 128 * ((b.val * 2048 + (128 * k.val + i.val)) / 128) + s.val = b.val * 2048 + (128 * k.val + s.val); omega)
  unfold mixes mixAt mixedAt
  rw [mixed_at, ei]
  refine congrArg (fun x : EReal => x + a8 (ix2 g i)) (Finset.sum_congr rfl fun s _ => ?_)
  rw [gatings_at p P hp, under_at, lower_at, one_at, zero_at, ← er, mul_comm]
  refine congrArg (fun x : EReal => x * gatingAt P a6 (rowIn (rowOf b ⟨128 * k.val + i.val, by omega⟩) s) g d) ?_
  unfold masked
  split
  · rw [mul_one]
  · rw [mul_zero]

/-- The reference's first result is the kernel's. -/
theorem wholeQkv_eq (a4 a5 : FVec Ideal S1x128 .f32) : wholeQkv p a4 a5 = qkv P a4 a5 := by
  funext j
  idx_vars j
  obtain ⟨b, t, rfl⟩ := exists_row j0
  show _ = qkvAt P a4 a5 (rowOf b t) j1
  unfold wholeQkv
  obtain ⟨g, d, rfl⟩ | ⟨g, d, rfl⟩ | ⟨n, rfl⟩ := exists_qkv j1
  · rw [beside_query, queries_at p P hp, Cert.InprojIdeal.Qkv.qkvAt_query]
  · rw [beside_key, keys_at p P hp, Cert.InprojIdeal.Qkv.qkvAt_key]
  · rw [beside_value, part4_at, hp, Cert.InprojIdeal.Qkv.qkvAt_value]

/-- The reference's second result is the kernel's. -/
theorem wholeSgu_eq (a6 : FVec Ideal S1x1024 .f32) (a7 : FVec Ideal S8x128x128 .f32) (a8 : FVec Ideal S8x128 .f32) :
    wholeSgu p a6 a7 a8 = sgu P a6 a7 a8 := by
  funext j
  idx_vars j
  obtain ⟨b, t, rfl⟩ := exists_row j0
  obtain ⟨g, d, rfl⟩ := exists_col j1
  show _ = sguAt P a6 a7 a8 (rowOf b t) (colOf g d)
  unfold wholeSgu sguAt
  rw [gate_at, mixes_at p P hp, gelued_at, part1_at, hp, Cert.InprojIdeal.Qkv.headOf_col, Cert.InprojIdeal.Qkv.laneOf_col]

/-- The reference's third result is the kernel's. -/
theorem lastCols_eq : lastCols p = forget P := by
  funext j
  idx_vars j
  obtain ⟨b, t, rfl⟩ := exists_row j0
  show _ = forgetAt P (rowOf b t) j1
  rw [lastCols_at, hp]
  rfl

end

end Cert.InprojRefIdeal.Qkv

namespace Cert.InprojIdeal.Qkv

open Cert.InprojIdeal Cert.InprojIdeal.Gen

/-- From agreeing arguments the kernel and the reference leave equal arrays. -/
theorem algebraic : Cert.algebraic_InprojIdeal_InprojRefIdeal := by
  pair_intro
  · run_from Cert.InprojIdeal.Value.run_blocks m g
  · run_from Cert.InprojRefIdeal.Value.run m' g'
    · obtain ⟨h0, h1, h2, h3, h4, h5, h6, h7, h8⟩ := hagree c
      refine Eq.trans ?_ ((final_qkv m c).trans (Cert.InprojRefIdeal.Qkv.wholeQkv_eq _ _
        (Cert.InprojRefIdeal.Qkv.whole_at _ _ _ _) _ _).symm).symm
      unfold arg0 arg1 arg2 arg3 arg4 arg5
      rw [← h0, ← h1, ← h2, ← h3, ← h4, ← h5]
      unfold Cert.InprojRefIdeal.Value.res_main_v134
      rfl
    · obtain ⟨h0, h1, h2, h3, h4, h5, h6, h7, h8⟩ := hagree c
      refine Eq.trans ?_ ((final_sgu m c).trans (Cert.InprojRefIdeal.Qkv.wholeSgu_eq _ _
        (Cert.InprojRefIdeal.Qkv.whole_at _ _ _ _) _ _ _).symm).symm
      unfold arg0 arg1 arg2 arg3 arg6 arg7 arg8
      rw [← h0, ← h1, ← h2, ← h3, ← h6, ← h7, ← h8]
      unfold Cert.InprojRefIdeal.Value.res_main_v136
      rfl
    · obtain ⟨h0, h1, h2, h3, h4, h5, h6, h7, h8⟩ := hagree c
      refine Eq.trans ?_ ((final_forget m c).trans (Cert.InprojRefIdeal.Qkv.lastCols_eq _ _
        (Cert.InprojRefIdeal.Qkv.whole_at _ _ _ _)).symm).symm
      unfold arg0 arg1 arg2 arg3
      rw [← h0, ← h1, ← h2, ← h3]
      rfl

end Cert.InprojIdeal.Qkv

end
-- ==== Proof.OutprojValue.lean ====
/- The value of the output projection's kernel over the exact numbers: each row of the result is the residual row plus
   the gate's row times the product of the two halves of the mixed row with the two halves of the weight. -/
module

public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojIdeal.Proj

open Cert.OutprojIdeal Cert.OutprojIdeal.Gen

/-- The projected residual stream, index by index: `a` and `s` are the two halves of the mixed rows, `w` the weight,
    `x` the residual, `mo` the modulation table whose row 2 is the gate. -/
def mixed (a s : FVec Ideal S16384x1024 .bf16) (w : FVec Ideal S2048x2048 .bf16) (x : FVec Ideal S16384x2048 .f32)
    (mo : FVec Ideal S8x6x2048 .f32) : FVec Ideal S16384x2048 .f32 := fun j =>
  x (ix2 (j 0) (j 1)) + mo (ix3 ⟨(j 0).val / 2048, by have := (j 0).isLt; simp only [S16384x2048] at this; change _ < 16384 at this; omega⟩ 2 (j 1)) *
    (∑ k : Fin 1024, a (ix2 (j 0) k) * w (ix2 ⟨k.val, by omega⟩ (j 1))
      + ∑ k : Fin 1024, s (ix2 (j 0) k) * w (ix2 ⟨1024 + k.val, by omega⟩ (j 1)))

variable (m : (ℓ : Loc nD τ sig) → Buf (Elt Ideal) ℓ)

/-- The block each window holds at grid point `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 4, 0, 0] ∧ win0_5.index t = ![t.val, 0] :=
  (by decide +kernel : ∀ t : Fin grid0.N, _)

/-- What grid point `t` stores at `y` is the projected stream where `y` sits in the array. -/
theorem point (c : Dev nD) (t : Fin cfg0.N) (y) :
    k0_pay1 (iblk m c 0 t) (View.ld (iblk m c 2 t) r0_1) (iblk m c 1 t) (View.ld (iblk m c 2 t) r0_2) (iblk m c 3 t)
      (View.ld (iblk m c 4 t) r0_4) y
      = mixed (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, mixed]
  blk_point [iblk, V, idx t]

/-- The array the kernel leaves is the projected stream. -/
theorem final (c : Dev nD) : (dats m 0 c).arrAt 5 cfg0.N
    = mixed (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]; frame_out
  exact point m c t y

end Cert.OutprojIdeal.Proj

end
-- ==== Proof.OutprojClaim.lean ====
/- The output projection: the kernel and the reference compute the same array over the exact numbers. -/
module

public import proofs.«01_k».proof.Proof.Gen.OutprojIdeal.Value
public import proofs.«01_k».proof.Proof.Gen.OutprojRefIdeal.Run
public import proofs.«01_k».proof.Proof.OutprojValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojRefIdeal.Proj

open Cert.OutprojRefIdeal Cert.OutprojRefIdeal.Gen Cert.OutprojIdeal.Proj

/-- The reference's result is the projected residual stream. -/
theorem ref_eq (a0 a1 : FVec Ideal S16384x1024 .bf16) (a2 : FVec Ideal S2048x2048 .bf16) (a3 : FVec Ideal S16384x2048 .f32)
    (a4 : FVec Ideal S8x6x2048 .f32) :
    shapeCast _ (addf (shapeCast _ a3 shapeCasts_S16384x2048_S8x2048x2048) (mulf (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 2, 0] a4 slices_S8x6x2048_S8x1x2048_0_2_0) shapeCasts_S8x1x2048_S8x2048))) (shapeCast _ (Host.dotGeneral dot_S16384x2048_S2048x2048_S16384x2048_1_0_0_1_n_n none (concatenate S16384x2048 1 [⟨S16384x1024, (extf .f32 a0 bitsLt_bf16_f32)⟩, ⟨S16384x1024, (extf .f32 a1 bitsLt_bf16_f32)⟩] concatenates_S16384x1024_S16384x1024_S16384x2048_d1) (extf .f32 a2 bitsLt_bf16_f32)) shapeCasts_S16384x2048_S8x2048x2048))) shapeCasts_S8x2048x2048_S16384x2048
      = mixed a0 a1 a2 a3 a4 := by
  funext j
  idx_vars j
  pointwise [mixed]

end Cert.OutprojRefIdeal.Proj

namespace Cert.OutprojIdeal.Proj

/-- From agreeing arguments the kernel and the reference leave equal arrays. -/
theorem algebraic : Cert.algebraic_OutprojIdeal_OutprojRefIdeal := by
  pair_intro
  · run_from Cert.OutprojIdeal.Value.run_blocks m g
  · run_from Cert.OutprojRefIdeal.Value.run m' g'
    exact (Cert.OutprojRefIdeal.Proj.ref_eq _ _ _ _ _).trans (final m c).symm

end Cert.OutprojIdeal.Proj

end
-- ==== Proof.FcumsumValue.lean ====
/- The running sums of the gates over the exact numbers: the three-term split adds up, and the chunks join. -/
module

public import proofs.«01_k».proof.Proof.Gen.FcumsumIdeal.Value
public import Idealize.ShloMosaic.Lib.Pipeline.ValueKit
public import Idealize.ShloMosaic.Lib.Pointwise
public import proofs.«01_k».proof.Proof.AttnMask
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FcumsumIdeal.Scan

open Cert.FcumsumIdeal Cert.FcumsumIdeal.Gen

/-- The logarithm of a number's logistic. -/
def logsig (y : EReal) : EReal :=
  -(max (-y) 0 + Ideal.log1p (Ideal.exp (-(FloatOps.absf (F := Ideal) (φ := .f32) (-y)))))

/-- The logarithm of one plus an exponential is not negative. -/
theorem log1p_exp_nonneg (z : EReal) : 0 ≤ Ideal.log1p (Ideal.exp z) := by
  induction z with
  | bot =>
    show 0 ≤ Ideal.log (1 + 0)
    rw [add_zero]
    show (0 : EReal) ≤ if (1 : ℝ) ≤ 0 then ⊥ else (Real.log 1 : EReal)
    rw [if_neg (by norm_num), Real.log_one, EReal.coe_zero]
  | top =>
    show 0 ≤ Ideal.log (1 + ⊤)
    have e : (1 : EReal) + ⊤ = ⊤ := EReal.coe_add_top 1
    rw [e]
    exact le_top
  | coe r =>
    have e : (1 : EReal) + ((Real.exp r : ℝ) : EReal) = ((1 + Real.exp r : ℝ) : EReal) := by
      rw [EReal.coe_add, EReal.coe_one]
    show 0 ≤ Ideal.log (1 + ((Real.exp r : ℝ) : EReal))
    rw [e]
    have h := Real.exp_pos r
    show (0 : EReal) ≤ if 1 + Real.exp r ≤ 0 then ⊥ else (Real.log (1 + Real.exp r) : EReal)
    rw [if_neg (by linarith)]
    exact EReal.coe_nonneg.2 (Real.log_nonneg (by linarith))

theorem logsig_ne_top (y : EReal) : logsig y ≠ ⊤ := by
  unfold logsig
  rw [Ne, EReal.neg_eq_top_iff]
  refine ne_of_gt (lt_of_lt_of_le EReal.bot_lt_zero ?_)
  exact add_nonneg (le_max_right _ _) (log1p_exp_nonneg _)

/-- A number that is not plus infinity is the sum of its three-term split. -/
theorem split_add (f : EReal) (h : f ≠ ⊤) : f + (f - f) + (f - f - (f - f)) = f := by
  induction f with
  | bot => rfl
  | top => exact absurd rfl h
  | coe r => rw [← EReal.coe_sub, sub_self, ← EReal.coe_sub, sub_self, EReal.coe_zero, add_zero, add_zero]

/-- The kernel's triangle: one at and below the diagonal. -/
theorem tri_at (r c : Fin 128) : k0_pay2 (F := Ideal) (ix2 r c) = if c.val ≤ r.val then 1 else 0 := by
  pointwise [k0_pay2]
  exact Cert.AttnIdeal.Soft.select_sle _ _ (by omega) (by omega)

/-- The triangle applied to the three terms of a column's split: the sum of the column down to the row. -/
theorem tri_split (f : Fin 128 → EReal) (hf : ∀ c, f c ≠ ⊤) (r : Fin 128) :
    ∑ c, k0_pay2 (F := Ideal) (ix2 r c) * f c + ∑ c, k0_pay2 (F := Ideal) (ix2 r c) * (f c - f c)
      + ∑ c, k0_pay2 (F := Ideal) (ix2 r c) * (f c - f c - (f c - f c)) = ∑ c : Fin 128, if c.val ≤ r.val then f c else 0 := by
  rw [← Finset.sum_add_distrib, ← Finset.sum_add_distrib]
  refine Finset.sum_congr rfl fun c _ => ?_
  rw [tri_at]
  by_cases h : c.val ≤ r.val
  · rw [if_pos h, if_pos h, one_mul, one_mul, one_mul, split_add _ (hf c)]
  · rw [if_neg h, if_neg h, zero_mul, zero_mul, zero_mul, add_zero, add_zero]

/-- The entries up to `r` of the first `n` terms of a sequence add up to its first `r + 1` terms. -/
theorem sum_upto {n : ℕ} (g : ℕ → EReal) (r : Fin n) :
    (∑ c : Fin n, if c.val ≤ r.val then g c.val else 0) = ∑ c ∈ Finset.range (r.val + 1), g c := by
  rw [Fin.sum_univ_eq_sum_range (fun c => if c ≤ r.val then g c else 0) n, ← Finset.sum_filter]
  refine Finset.sum_congr (Finset.ext fun c => ?_) fun _ _ => rfl
  have := r.isLt
  rw [Finset.mem_filter, Finset.mem_range, Finset.mem_range]
  omega

/-- The kernel's logarithm of the logistic. -/
theorem logsig_at (y : EReal) : (0 - if 0 - y ≠ 0 - y then 0 - y else max (0 - y) 0
    + Ideal.log1p (Ideal.exp (0 - FloatOps.absf (F := Ideal) (φ := .f32) (0 - y)))) = logsig y := by
  rw [if_neg (fun h => h rfl)]
  simp only [zero_sub]
  rfl

/-- Column `k` of the logarithms over a batch's rows, as a sequence. -/
def gate (X : Vec Ideal S2048x128 .f32) (B : Vec Ideal S1x128 .f32) (k : Fin 128) (s : ℕ) : EReal :=
  if h : s < 2048 then logsig (X (ix2 ⟨s, h⟩ k) + B (ix2 0 k)) else 0

/-- The running sum of column `k` through row `t`. -/
def upto (X : Vec Ideal S2048x128 .f32) (B : Vec Ideal S1x128 .f32) (k : Fin 128) (t : ℕ) : EReal :=
  ∑ s ∈ Finset.range (t + 1), gate X B k s

/-- A chunk of rows as the kernel loads it. -/
theorem rows_at (X : Vec Ideal S2048x128 .f32) (o : ℕ) (ho : o + 128 ≤ 2048) (inb) (r k : Fin 128) :
    View.ld (e' := .f32) (Val := Elt Ideal) X (Rect.unit (s := S2048x128) ![o, 0] S128x128.size inb) (ix2 r k) = X (ix2 ⟨o + r.val, by omega⟩ k) := by
  refine congrArg X (funext fun a => match a with | 0 => Fin.ext ?_ | 1 => Fin.ext ?_)
  · show o + 1 * r.val = o + r.val
    omega
  · show 0 + 1 * k.val = k.val
    omega

theorem bias_at (B : Vec Ideal S1x128 .f32) (k : Fin 128) : View.ld (e' := .f32) (Val := Elt Ideal) B r0_1 (ix2 0 k) = B (ix2 0 k) := by
  refine congrArg B (funext fun a => match a with | 0 => Fin.ext ?_ | 1 => Fin.ext ?_)
  · rfl
  · show 0 + 1 * k.val = k.val
    omega

/-- The logarithms of a chunk added up within it are the terms of the sequence from the chunk's first row. -/
theorem chunk_sum (X : Vec Ideal S2048x128 .f32) (B : Vec Ideal S1x128 .f32) (o : ℕ) (ho : o + 128 ≤ 2048) (inb) (r k : Fin 128) :
    (∑ c : Fin 128, if c.val ≤ r.val then logsig (View.ld (e' := .f32) (Val := Elt Ideal) X (Rect.unit (s := S2048x128) ![o, 0] S128x128.size inb) (ix2 c k)
      + View.ld (e' := .f32) (Val := Elt Ideal) B r0_1 (ix2 0 k)) else 0) = ∑ c ∈ Finset.range (r.val + 1), gate X B k (o + c) := by
  rw [← sum_upto]
  refine Finset.sum_congr rfl fun c _ => ?_
  rw [rows_at X o ho, bias_at, gate, dif_pos (by omega)]

/-- The first chunk's sums. -/
theorem first_at (X : Vec Ideal S2048x128 .f32) (B : Vec Ideal S1x128 .f32) (r k : Fin 128) :
    k0_pay35 (F := Ideal) X B (ix2 r k) = upto X B k r.val := by
  have e := chunk_sum X B 0 (by omega) inb_S2048x128_S128x128_0_0 r k
  rw [← tri_split _ fun _ => logsig_ne_top _] at e
  have e' : upto X B k r.val = ∑ c ∈ Finset.range (r.val + 1), gate X B k (0 + c) :=
    Finset.sum_congr rfl fun c _ => by rw [Nat.zero_add]
  rw [e', ← e, k0_pay35]
  generalize View.ld (e' := .f32) (Val := Elt Ideal) X _ = Y
  generalize View.ld (e' := .f32) (Val := Elt Ideal) B _ = b
  pointwise [k0_pay3]
  simp only [logsig_at]

/-- A later chunk's sums, from the chunk before. -/
theorem next_at (X : Vec Ideal S2048x128 .f32) (B : Vec Ideal S1x128 .f32) (P : FVec Ideal S128x128 .f32) (o : ℕ)
    (ho : o + 256 ≤ 2048) (inb) (hP : ∀ r k : Fin 128, P (ix2 r k) = upto X B k (o + r.val)) (r k : Fin 128) :
    k0_pay5 (F := Ideal) k0_pay2 P (View.ld (e' := .f32) (Val := Elt Ideal) X (Rect.unit (s := S2048x128) ![o + 128, 0] S128x128.size inb)) (View.ld (e' := .f32) (Val := Elt Ideal) B r0_1) (ix2 r k)
      = upto X B k (o + 128 + r.val) := by
  have e := chunk_sum X B (o + 128) (by omega) inb r k
  rw [← tri_split _ fun _ => logsig_ne_top _] at e
  have e' : upto X B k (o + 128 + r.val)
      = ∑ c ∈ Finset.range (r.val + 1), gate X B k (o + 128 + c) + P (ix2 127 k) := by
    rw [hP]
    exact (Finset.sum_range_add (gate X B k) (o + 128) (r.val + 1)).trans (add_comm _ _)
  rw [e', ← e]
  generalize k0_pay2 (F := Ideal) = T
  generalize View.ld (e' := .f32) (Val := Elt Ideal) X _ = Y
  generalize View.ld (e' := .f32) (Val := Elt Ideal) B _ = b
  pointwise [k0_pay5]
  simp only [logsig_at]

/-- What a chunk writes: its sums scaled, turned, the first eight of them. -/
theorem out_at (G : FVec Ideal S128x128 .f32) (c : Ideal .f32) (h : Fin 8) (i : Fin 128) :
    k0_pay4 G c (ix3 0 h i) = G (ix2 i ⟨h.val, by omega⟩) * c := by
  pointwise [k0_pay4]

/-- The running sums of the chunks, one after the other. -/
theorem sums_at (X : Vec Ideal S2048x128 .f32) (B : Vec Ideal S1x128 .f32) (n : Fin 16) (r k : Fin 128) :
    (![k0_pay35 (F := Ideal) X B, k0_pay36 X B, k0_pay37 X B, k0_pay38 X B, k0_pay39 X B, k0_pay40 X B, k0_pay41 X B, k0_pay42 X B,
      k0_pay43 X B, k0_pay44 X B, k0_pay45 X B, k0_pay46 X B, k0_pay47 X B, k0_pay48 X B, k0_pay49 X B,
      k0_pay33 (k0_pay34 X B) (k0_pay49 X B) (View.ld X r0_31) (View.ld B r0_1)] n) (ix2 r k) = upto X B k (128 * n.val + r.val) := by
  have h0 : ∀ r k : Fin 128, k0_pay35 (F := Ideal) X B (ix2 r k) = upto X B k (128 * 0 + r.val) := fun r k => by
    rw [first_at, Nat.zero_add]
  have h1 := next_at X B _ 0 (by omega) inb_S2048x128_S128x128_128_0 h0
  have h2 := next_at X B _ 128 (by omega) inb_S2048x128_S128x128_256_0 h1
  have h3 := next_at X B _ 256 (by omega) inb_S2048x128_S128x128_384_0 h2
  have h4 := next_at X B _ 384 (by omega) inb_S2048x128_S128x128_512_0 h3
  have h5 := next_at X B _ 512 (by omega) inb_S2048x128_S128x128_640_0 h4
  have h6 := next_at X B _ 640 (by omega) inb_S2048x128_S128x128_768_0 h5
  have h7 := next_at X B _ 768 (by omega) inb_S2048x128_S128x128_896_0 h6
  have h8 := next_at X B _ 896 (by omega) inb_S2048x128_S128x128_1024_0 h7
  have h9 := next_at X B _ 1024 (by omega) inb_S2048x128_S128x128_1152_0 h8
  have h10 := next_at X B _ 1152 (by omega) inb_S2048x128_S128x128_1280_0 h9
  have h11 := next_at X B _ 1280 (by omega) inb_S2048x128_S128x128_1408_0 h10
  have h12 := next_at X B _ 1408 (by omega) inb_S2048x128_S128x128_1536_0 h11
  have h13 := next_at X B _ 1536 (by omega) inb_S2048x128_S128x128_1664_0 h12
  have h14 := next_at X B _ 1664 (by omega) inb_S2048x128_S128x128_1792_0 h13
  have h15 := next_at X B _ 1792 (by omega) inb_S2048x128_S128x128_1920_0 h14
  fin_cases n
  · exact h0 r k
  · exact h1 r k
  · exact h2 r k
  · exact h3 r k
  · exact h4 r k
  · exact h5 r k
  · exact h6 r k
  · exact h7 r k
  · exact h8 r k
  · exact h9 r k
  · exact h10 r k
  · exact h11 r k
  · exact h12 r k
  · exact h13 r k
  · exact h14 r k
  · exact h15 r k
/-- The scale that turns natural logarithms into binary ones. -/
def scale : EReal := Scalar.ofBits (F := Ideal) .f32 0x3FB8AA3B#32

/-- A chunk's piece of the block. -/
theorem piece_at (X : Vec Ideal S2048x128 .f32) (B : Vec Ideal S1x128 .f32) (n : Fin 16) (G : FVec Ideal S128x128 .f32)
    (hG : ∀ r k : Fin 128, G (ix2 r k) = upto X B k (128 * n.val + r.val)) {h : Fin 8} {t : Fin 2048} (z0 : Fin 1) (z1 : Fin 8)
    (z2 : Fin 128) (hz1 : h.val = z1.val) (hz2 : t.val = 128 * n.val + z2.val) :
    k0_pay4 G (Scalar.ofBits .f32 0x3FB8AA3B#32) (ix3 z0 z1 z2) = upto X B ⟨h.val, by omega⟩ t.val * scale := by
  obtain rfl : h = z1 := Fin.ext hz1
  obtain rfl : z0 = 0 := Subsingleton.elim _ _
  rw [out_at, hG, hz2]
  rfl

/-- What a grid point leaves in its block. -/
theorem out_eq (X : Vec Ideal S2048x128 .f32) (B : Vec Ideal S1x128 .f32) (h : Fin 8) (t : Fin 2048) :
    out0_2 (F := Ideal) X B (ix3 0 h t) = upto X B ⟨h.val, by omega⟩ t.val * scale := by
  unfold out0_2
  canon_tiles z hz using View.cover_of_tiledBy _ ![1, 8, 128] (by sl_kernel_rfl) _
  all_goals idx_vars z
  · exact piece_at X B 15 _ (sums_at X B 15) z0 z1 z2 hz1 hz2
  · exact piece_at X B 14 _ (sums_at X B 14) z0 z1 z2 hz1 hz2
  · exact piece_at X B 13 _ (sums_at X B 13) z0 z1 z2 hz1 hz2
  · exact piece_at X B 12 _ (sums_at X B 12) z0 z1 z2 hz1 hz2
  · exact piece_at X B 11 _ (sums_at X B 11) z0 z1 z2 hz1 hz2
  · exact piece_at X B 10 _ (sums_at X B 10) z0 z1 z2 hz1 hz2
  · exact piece_at X B 9 _ (sums_at X B 9) z0 z1 z2 hz1 hz2
  · exact piece_at X B 8 _ (sums_at X B 8) z0 z1 z2 hz1 hz2
  · exact piece_at X B 7 _ (sums_at X B 7) z0 z1 z2 hz1 hz2
  · exact piece_at X B 6 _ (sums_at X B 6) z0 z1 z2 hz1 hz2
  · exact piece_at X B 5 _ (sums_at X B 5) z0 z1 z2 hz1 hz2
  · exact piece_at X B 4 _ (sums_at X B 4) z0 z1 z2 hz1 hz2
  · exact piece_at X B 3 _ (sums_at X B 3) z0 z1 z2 hz1 hz2
  · exact piece_at X B 2 _ (sums_at X B 2) z0 z1 z2 hz1 hz2
  · exact piece_at X B 1 _ (sums_at X B 1) z0 z1 z2 hz1 hz2
  · exact piece_at X B 0 _ (sums_at X B 0) z0 z1 z2 hz1 (hz2.trans (Nat.zero_add _).symm)

/-- The logarithms of head `h` of batch `b` over the whole array, as a sequence. -/
def logs (f : FVec Ideal S16384x128 .f32) (b : FVec Ideal S1x128 .f32) (i h : Fin 8) (s : ℕ) : EReal :=
  if hs : s < 2048 then logsig (f (ix2 ⟨2048 * i.val + s, by omega⟩ ⟨h.val, by omega⟩) + b (ix2 0 ⟨h.val, by omega⟩)) else 0

/-- The scaled running sums as an array. -/
def scanned (f : FVec Ideal S16384x128 .f32) (b : FVec Ideal S1x128 .f32) : FVec Ideal S8x8x2048 .f32 := fun j =>
  (∑ s ∈ Finset.range ((j 2 : Fin 2048).val + 1), logs f b (j 0) (j 1) s) * scale

variable (m : (ℓ : Loc nD τ sig) → Buf (Elt Ideal) ℓ)

/-- The block each window holds at grid point `t`. -/
theorem idx : ∀ t : Fin cfg0.N, win0_0.index t = ![t.val, 0] ∧ win0_1.index t = ![0, 0] ∧ win0_2.index t = ![t.val, 0, 0] :=
  (by decide +kernel : ∀ t : Fin grid0.N, _)

theorem blk_f (c : Dev nD) (t : Fin cfg0.N) (s : Fin 2048) (k : Fin 128) : iblk m c 0 t (ix2 s k)
    = m ((c : Thread nD τ).loc main_arg0) (ix2 ⟨2048 * t.val + s.val, by have := t.isLt; change _ < 8 at this; omega⟩ k) := by
  blk_point [iblk, V, idx t]

theorem blk_b (c : Dev nD) (t : Fin cfg0.N) (k : Fin 128) : iblk m c 1 t (ix2 0 k)
    = m ((c : Thread nD τ).loc main_arg1) (ix2 0 k) := by
  blk_point [iblk, V, idx t]

/-- A batch's logarithms, read from its block. -/
theorem gate_blk (c : Dev nD) (t : Fin cfg0.N) (i h : Fin 8) (hi : i.val = t.val) (s : ℕ) :
    gate (iblk m c 0 t) (iblk m c 1 t) ⟨h.val, by omega⟩ s
      = logs (m ((c : Thread nD τ).loc main_arg0)) (m ((c : Thread nD τ).loc main_arg1)) i h s := by
  unfold gate logs
  split
  · rw [blk_f, blk_b]
    congr 4
    exact Fin.ext (congrArg (fun a => 2048 * a + s) hi.symm)
  · rfl

/-- What grid point `t` leaves at `y`. -/
theorem point (c : Dev nD) (t : Fin cfg0.N) (y) : out0_2 (iblk m c 0 t) (iblk m c 1 t) y
    = scanned (m ((c : Thread nD τ).loc main_arg0)) (m ((c : Thread nD τ).loc main_arg1)) (((cfg0.win 2).blk t).view.emb y) := by
  have ez : ((cfg0.win 2).blk t).view.emb y = ix3 ⟨t.val, by have := t.isLt; exact this⟩ (y 1) (y 2) := by
    blk_ext [idx t]
  have ey : y = ix3 0 (y 1) (y 2) := funext fun a => match a with | 0 => Subsingleton.elim (α := Fin 1) _ _ | 1 => rfl | 2 => rfl
  rw [ez]
  refine (congrArg _ ey).trans ((out_eq _ _ _ _).trans ?_)
  exact congrArg (· * scale) (Finset.sum_congr rfl fun s _ => gate_blk m c t _ _ rfl s)

/-- The array the kernel leaves. -/
theorem final_scan (c : Dev nD) : (dats m 0 c).arrAt 2 cfg0.N
    = scanned (m ((c : Thread nD τ).loc main_arg0)) (m ((c : Thread nD τ).loc main_arg1)) := by
  refine (dats m 0 c).arrAt_eq_of_covers 2 _ (by decide +kernel) fun t _ y => ?_
  blk_simp; rw [after0_2]
  exact point m c t y

end Cert.FcumsumIdeal.Scan

end
-- ==== Proof.FcumsumClaim.lean ====
/- The running sums of the gates: the kernel and the reference compute the same array over the exact numbers. -/
module

public import proofs.«01_k».proof.Proof.Gen.FcumsumIdeal.Value
public import proofs.«01_k».proof.Proof.Gen.FcumsumRefIdeal.Run
public import proofs.«01_k».proof.Proof.FcumsumValue
public import proofs.«01_k».proof.Proof.FfnClaim
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FcumsumRefIdeal.Scan

open Cert.FcumsumRefIdeal Cert.FcumsumRefIdeal.Gen
open Cert.FcumsumIdeal.Scan (logsig logs scale scanned)

/-- The gates' logits, cut to the heads, by batch. -/
def gates (f : FVec Ideal S16384x128 .f32) (b : FVec Ideal S1x128 .f32) : FVec Ideal S8x2048x8 .f32 :=
  shapeCast _ (extractStridedSlice S16384x8 ![0, 0] (addf f (broadcastInDim S16384x128 ![0, 1] bcast_S1x128_S16384x128_0_1 b)) slices_S16384x128_S16384x8_0_0) shapeCasts_S16384x8_S8x2048x8

/-- The reference's logarithm of the logistic of negated numbers `x`. -/
def logOf (x z : FVec Ideal S8x2048x8 .f32) : FVec Ideal S8x2048x8 .f32 :=
  Host.negf (select (cmpf .une (subf x z) (subf x z)) (addf x z)
    (addf (maximumf x z) (Host.log1p (Host.exp (Host.negf (Host.absf (subf x z)))))))

/-- The reference's running sum along the rows. -/
def running (x : FVec Ideal S8x2048x8 .f32) (z : FVec Ideal S_ .f32) : FVec Ideal S8x2048x8 .f32 :=
  Host.reduceWindowAdd ![1, 2048, 1] ![1, 1, 1] ![0, 2047, 0] ![0, 0, 0] x (broadcastInDim S_ ![] bcast_S_S_ z)
    reduceWindows_S8x2048x8_S8x2048x8_w1s1p0_0_w2048s1p2047_0_w1s1p0_0 h_S_

/-- The reference's result from the running sums. -/
def turned (x : FVec Ideal S8x2048x8 .f32) (c : FVec Ideal S_ .f32) : FVec Ideal S8x8x2048 .f32 :=
  mulf (transpose S8x8x2048 [0, 2, 1] x transposes_S8x2048x8_S8x8x2048_0_2_1) (broadcastInDim S8x8x2048 ![] bcast_S_S8x8x2048 c)

theorem gates_at (f : FVec Ideal S16384x128 .f32) (b : FVec Ideal S1x128 .f32) (i : Fin 8) (s : Fin 2048) (h : Fin 8) :
    gates f b (ix3 i s h) = f (ix2 ⟨2048 * i.val + s.val, by omega⟩ ⟨h.val, by omega⟩) + b (ix2 0 ⟨h.val, by omega⟩) := by
  pointwise [gates]
  exact congrArg (fun a => f (ix2 a _) + _) (Fin.ext (congrArg (· + s.val) (Nat.mul_comm _ _)))

theorem logOf_at (x : FVec Ideal S8x2048x8 .f32) (z : FVec Ideal S_ .f32) (hz : z ix0 = 0) (i : Fin 8) (s : Fin 2048) (h : Fin 8) :
    logOf (Host.negf x) (broadcastInDim S8x2048x8 ![] bcast_S_S8x2048x8 z) (ix3 i s h) = logsig (x (ix3 i s h)) := by
  pointwise [logOf]
  rw [hz, if_neg (fun h => h rfl), sub_zero]
  rfl

theorem turned_at (x : FVec Ideal S8x2048x8 .f32) (c : FVec Ideal S_ .f32) (i h : Fin 8) (t : Fin 2048) :
    turned x c (ix3 i h t) = x (ix3 i t h) * c ix0 := by
  pointwise [turned]

theorem scale_at : constant (F := Ideal) S_ .f32 0x3FB8AA3B#32 ix0 = scale := rfl

/-- Adding up a list from zero. -/
theorem foldl_add {α : Type} (l : List α) (g : α → EReal) (a : EReal) :
    l.foldl (fun r n => r + g n) a = a + (l.map g).sum := by
  induction l generalizing a with
  | nil => simp
  | cons n l ih => rw [List.foldl_cons, ih, List.map_cons, List.sum_cons, add_assoc]

/-- Adding up over a shape's positions in order adds up over its indices. -/
theorem fold_window (W : Shape) (G : W.Idx → EReal) :
    (List.finRange W.numel).foldl (fun r n => r + G (W.rowMajor.symm n)) 0 = ∑ p, G p := by
  rw [foldl_add _ (fun n => G (W.rowMajor.symm n)), zero_add, ← Fin.sum_univ_def]
  exact Equiv.sum_comp W.rowMajor.symm G

/-- The window's positions are the rows. -/
theorem window_sum (G : (⟨3, ![1, 2048, 1]⟩ : Shape).Idx → EReal) : ∑ p, G p = ∑ n : Fin 2048, G (ix3 0 n 0) := by
  symm
  refine Fintype.sum_bijective (fun n : Fin 2048 => (ix3 0 n 0 : (⟨3, ![1, 2048, 1]⟩ : Shape).Idx)) ⟨fun a b h => ?_, fun p => ⟨p 1, ?_⟩⟩ _ _ fun _ => rfl
  · exact congrFun h 1
  · funext a
    match a with
    | 0 => exact Subsingleton.elim (α := Fin 1) _ _
    | 1 => rfl
    | 2 => exact Subsingleton.elim (α := Fin 1) _ _

/-- The entries of a window of all rows ending at row `t` that lie in the array. -/
theorem tail_sum (g : ℕ → EReal) (t : ℕ) (ht : t < 2048) :
    (∑ n : Fin 2048, if 2047 ≤ t + n.val then g (t + n.val - 2047) else 0) = ∑ s ∈ Finset.range (t + 1), g s := by
  rw [Fin.sum_univ_eq_sum_range (fun n => if 2047 ≤ t + n then g (t + n - 2047) else 0) 2048]
  have e : 2048 = (2047 - t) + (t + 1) := by omega
  rw [e, Finset.sum_range_add, Finset.sum_eq_zero, zero_add]
  · refine Finset.sum_congr rfl fun s hs => ?_
    rw [if_pos (by omega)]
    exact congrArg g (by omega)
  · intro n hn
    rw [Finset.mem_range] at hn
    rw [if_neg (by omega)]

/-- What position `p` of the window of entry `j` adds to its sum: the number there, or nothing in the padding. -/
def spot {s t : Shape} (window strides lo hi : Fin s.rank → ℕ) (h : s.ReduceWindows window strides lo hi t) (x : s.Idx → EReal)
    (j : t.Idx) (p : (⟨s.rank, window⟩ : Shape).Idx) : EReal :=
  if hin : ∀ a, lo a ≤ (j (a.cast h.1.symm)).val * strides a + (p a).val
      ∧ (j (a.cast h.1.symm)).val * strides a + (p a).val - lo a < s.size a then
    x (fun a => ⟨(j (a.cast h.1.symm)).val * strides a + (p a).val - lo a, (hin a).2⟩) else 0

/-- A window sum from zero adds up what its positions add. -/
theorem spots_sum {s t : Shape} (window strides lo hi : Fin s.rank → ℕ) (h : s.ReduceWindows window strides lo hi t)
    (x : s.Idx → EReal) (j : t.Idx) : Ideal.hostReduceWindowAdd window strides lo hi h x 0 j
      = ∑ p, spot window strides lo hi h x j p := by
  unfold Ideal.hostReduceWindowAdd Host.reduceWindow
  refine Eq.trans ?_ (fold_window ⟨s.rank, window⟩ (spot window strides lo hi h x j))
  refine congrArg (fun g : EReal → Fin (⟨s.rank, window⟩ : Shape).numel → EReal => List.foldl g 0 _) (funext fun r => funext fun n => ?_)
  unfold spot
  dsimp only
  refine congrArg (r + ·) ?_
  congr

/-- What a position of the reference's window adds. -/
def term (x : FVec Ideal S8x2048x8 .f32) (j : S8x2048x8.Idx) (p : (⟨3, ![1, 2048, 1]⟩ : Shape).Idx) : EReal :=
  spot (s := S8x2048x8) ![1, 2048, 1] ![1, 1, 1] ![0, 2047, 0] ![0, 0, 0]
    reduceWindows_S8x2048x8_S8x2048x8_w1s1p0_0_w2048s1p2047_0_w1s1p0_0 x j p

theorem term_in (x : FVec Ideal S8x2048x8 .f32) (i h : Fin 8) (t n : Fin 2048) (hc : 2047 ≤ t.val + n.val) :
    term x (ix3 i t h) (ix3 0 n 0) = x (ix3 i ⟨t.val + n.val - 2047, by omega⟩ h) := by
  have ht := t.isLt
  have hn := n.isLt
  unfold term spot
  rw [dif_pos fun a => by
    match a with
    | 0 => show 0 ≤ i.val * 1 + 0 ∧ i.val * 1 + 0 - 0 < 8; omega
    | 1 => show 2047 ≤ t.val * 1 + n.val ∧ t.val * 1 + n.val - 2047 < 2048; omega
    | 2 => show 0 ≤ h.val * 1 + 0 ∧ h.val * 1 + 0 - 0 < 8; omega]
  refine congrArg x (funext fun a => Fin.ext ?_)
  match a with
  | 0 => show i.val * 1 + 0 - 0 = i.val; omega
  | 1 => show t.val * 1 + n.val - 2047 = t.val + n.val - 2047; omega
  | 2 => show h.val * 1 + 0 - 0 = h.val; omega

theorem term_out (x : FVec Ideal S8x2048x8 .f32) (i h : Fin 8) (t n : Fin 2048) (hc : ¬ 2047 ≤ t.val + n.val) :
    term x (ix3 i t h) (ix3 0 n 0) = 0 := by
  unfold term spot
  rw [dif_neg]
  intro hin
  have h1 : 2047 ≤ t.val * 1 + n.val := (hin 1).1
  omega

/-- The reference's running sum adds up its window. -/
theorem running_sum (x : FVec Ideal S8x2048x8 .f32) (z : FVec Ideal S_ .f32) (hz : z ix0 = 0) (j : S8x2048x8.Idx) :
    running x z j = ∑ p, term x j p := by
  have ev : ∀ j, broadcastInDim S_ ![] bcast_S_S_ z j = 0 := fun j => (congrArg z (funext fun a => a.elim0)).trans hz
  unfold running Host.reduceWindowAdd
  rw [ev, Ideal.hostReduceWindowAdd_def]
  exact spots_sum (s := S8x2048x8) ![1, 2048, 1] ![1, 1, 1] ![0, 2047, 0] ![0, 0, 0]
    reduceWindows_S8x2048x8_S8x2048x8_w1s1p0_0_w2048s1p2047_0_w1s1p0_0 x j

/-- The reference's running sum is the sum through the row. -/
theorem running_at (x : FVec Ideal S8x2048x8 .f32) (z : FVec Ideal S_ .f32) (hz : z ix0 = 0) (i h : Fin 8) (t : Fin 2048) :
    running x z (ix3 i t h) = ∑ s ∈ Finset.range (t.val + 1), if hs : s < 2048 then x (ix3 i ⟨s, hs⟩ h) else 0 := by
  rw [← tail_sum _ _ t.isLt, running_sum x z hz, window_sum]
  refine Finset.sum_congr rfl fun n _ => ?_
  by_cases hc : 2047 ≤ t.val + n.val
  · rw [if_pos hc, dif_pos (by omega), term_in x i h t n hc]
  · rw [if_neg hc, term_out x i h t n hc]

/-- The reference's result is the kernel's. -/
theorem whole_eq (f : FVec Ideal S16384x128 .f32) (b : FVec Ideal S1x128 .f32) :
    turned (running (logOf (Host.negf (gates f b)) (broadcastInDim S8x2048x8 ![] bcast_S_S8x2048x8 (constant S_ .f32 0x00000000#32)))
      (constant S_ .f32 0x00000000#32)) (constant S_ .f32 0x3FB8AA3B#32) = scanned f b := by
  funext j
  idx_vars j
  rw [turned_at, scale_at, running_at _ _ Cert.FfnRefIdeal.Norm.zero_at]
  refine congrArg (· * scale) (Finset.sum_congr rfl fun s _ => ?_)
  show _ = logs f b j0 j1 s
  unfold logs
  split
  · rw [logOf_at _ _ Cert.FfnRefIdeal.Norm.zero_at, gates_at]
  · rfl

/-- The reference runs to the scaled running sums, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
          = scanned (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine θ_run_mono (Value.run m ρ) fun r hr c => ⟨(hr c).1.trans ?_, (hr c).2⟩
  rw [← whole_eq]
  rfl

end Cert.FcumsumRefIdeal.Scan

namespace Cert.FcumsumIdeal.Scan

open Cert.FcumsumIdeal Cert.FcumsumIdeal.Gen

/-- From agreeing arguments the kernel and the reference leave equal arrays. -/
theorem algebraic : Cert.algebraic_FcumsumIdeal_FcumsumRefIdeal := by
  pair_intro
  · run_from Cert.FcumsumIdeal.Value.run_blocks m g
  · run_from Cert.FcumsumRefIdeal.Scan.run m' g'
    exact (final_scan m c).symm

end Cert.FcumsumIdeal.Scan

end
-- ==== Proof.AdalnValue.lean ====
/- The modulation call over the exact numbers: a product with a silu in front, and a reordering of rows. -/
module

public import proofs.«01_k».proof.Proof.Gen.AdalnIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdalnIdeal.Mod

open Cert.AdalnIdeal Cert.AdalnIdeal.Gen

/-- A number times its logistic. -/
def silu (x : EReal) : EReal := x * Ideal.logistic x

/-- The modulation vectors: the gated conditions times the weight, plus the bias. -/
def modAt (x : FVec Ideal S8x2048 .f32) (w : FVec Ideal S1x2048x12288 .f32) (b : FVec Ideal S1x12288 .f32) (s : Fin 8)
    (n : Fin 12288) : EReal := ∑ e : Fin 2048, silu (x (ix2 s e)) * w (ix3 0 e n) + b (ix2 0 n)

/-- Entry `R` of a reordered column `v`: the last two thousand entries in front, in exchanged halves, then the first, then
    zeros. -/
def packed (v : Fin 5128 → EReal) (R : Fin 5248) : EReal :=
  if h : R.val < 1024 then v ⟨4104 + R.val, by omega⟩ else if h : R.val < 2048 then v ⟨2056 + R.val, by omega⟩
  else if h : R.val < 5128 then v ⟨R.val - 2048, by omega⟩ else 0

/-- The modulation vectors as an array. -/
def modded (x : FVec Ideal S8x2048 .f32) (w : FVec Ideal S1x2048x12288 .f32) (b : FVec Ideal S1x12288 .f32) :
    FVec Ideal S8x12288 .f32 := fun j => modAt x w b (j 0) (j 1)

/-- The reordered weight as an array. -/
def reordered (w : FVec Ideal S1x2048x5128 .f32) : FVec Ideal S5248x2048 .bf16 := fun j =>
  packed (fun k => w (ix3 0 (j 1) k)) (j 0)

variable (m : (ℓ : Loc nD τ sig) → Buf (Elt Ideal) ℓ)

/-- The block each window holds at grid point `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The kernel's selection of the first eight rows. -/
theorem select_slt {a : ℕ} (x y : EReal) (ha : a < 128) :
    (Scalar.select (IntOp.cmpi .slt (BitVec.ofNat 32 a) 8#32) x y : EReal) = if a < 8 then x else y := by
  have h : BitVec.slt (BitVec.ofNat 32 a) 8#32 = decide (a < 8) := by
    rw [BitVec.slt_eq_decide, BitVec.toInt_ofNat']
    congr 1
    rw [Int.bmod_eq_of_le (by omega) (by omega)]
    show ((a : Int) < 8) = _
    exact propext (by omega)
  simp only [Scalar.select, IntOp.cmpi, h]
  by_cases hab : a < 8 <;> simp [hab]

/-- What grid point `t` leaves at `y` of the modulation vectors. -/
theorem point_mod (c : Dev nD) (t : Fin cfg0.N) (y) : (outsAt0 m c t).1 y
    = modded (m ((c : Thread nD τ).loc main_arg0)) (m ((c : Thread nD τ).loc main_arg1)) (m ((c : Thread nD τ).loc main_arg2))
        (((cfg0.win 4).blk t).view.emb y) := by
  unfold outsAt0; frame_out
  pointwise [k0_pay2, modded, modAt, silu]
  blk_point [iblk, V, idx t]

/-- What grid point `t` leaves in a column of the reordered weight. -/
theorem out_w (c : Dev nD) (t : Fin cfg0.N) (R : Fin 5248) (n : Fin 128) :
    (outsAt0 m c t).2 (ix2 R n) = packed (fun k => iblk m c 3 t (ix2 k n)) R := by
  unfold outsAt0; frame_out
  generalize iblk m c 3 t = W
  canon_tiles z hz using View.cover_of_tiledBy _ ![128, 128] (by sl_kernel_rfl) _
  · idx_vars z
    unfold packed
    rw [dif_neg (by omega), dif_neg (by omega)]
    pointwise [k0_pay1, k0_pay6, k0_pay7]
    refine (select_slt _ _ z0.isLt).trans ?_
    by_cases h : z0.val < 8
    · rw [if_pos h, dif_pos (by omega)]
      blk_point []
    · rw [if_neg h, dif_neg (by omega)]
  · idx_vars z
    unfold packed
    rw [dif_neg (by omega), dif_neg (by omega), dif_pos (by omega)]
    pointwise [k0_pay5]
    blk_point []
  · idx_vars z
    unfold packed
    rw [dif_neg (by omega), dif_pos (by omega)]
    pointwise [k0_pay4]
    blk_point []
  · idx_vars z
    unfold packed
    rw [dif_pos (by omega)]
    pointwise [k0_pay3]
    blk_point []

theorem blk_w (c : Dev nD) (t : Fin cfg0.N) (k : Fin 5128) (n : Fin 128) : iblk m c 3 t (ix2 k n)
    = m ((c : Thread nD τ).loc main_arg3) (ix3 0 ⟨128 * t.val + n.val, by have := t.isLt; change _ < 16 at this; omega⟩ k) := by
  blk_point [iblk, V, idx t]

/-- What grid point `t` leaves at `y` of the reordered weight. -/
theorem point_w (c : Dev nD) (t : Fin cfg0.N) (y) : (outsAt0 m c t).2 y
    = reordered (m ((c : Thread nD τ).loc main_arg3)) (((cfg0.win 5).blk t).view.emb y) := by
  have ey : y = ix2 (y 0) (y 1) := funext fun a => match a with | 0 => rfl | 1 => rfl
  have ez : ((cfg0.win 5).blk t).view.emb y
      = ix2 (y 0) ⟨128 * t.val + (y 1).val, by have := t.isLt; change _ < 16 at this; have := (y 1).isLt; change _ < 128 at this; omega⟩ := by
    blk_ext [idx t]
  rw [ez]
  refine (congrArg (outsAt0 m c t).2 ey).trans ((out_w m c t (y 0) (y 1)).trans ?_)
  exact congrArg (fun v => packed v (y 0)) (funext fun k => blk_w m c t k (y 1))

/-- The modulation vectors the kernel leaves. -/
theorem final_mod (c : Dev nD) : (dats m 0 c).arrAt 4 cfg0.N
    = modded (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]
  exact point_mod m c t y

/-- The reordered weight the kernel leaves. -/
theorem final_w (c : Dev nD) : (dats m 0 c).arrAt 5 cfg0.N = reordered (m ((c : Thread nD τ).loc main_arg3)) := by
  refine (dats m 0 c).arrAt_eq_of_covers 5 _ (by decide +kernel) fun t _ y => ?_
  blk_simp; rw [after0_5]
  exact point_w m c t y

end Cert.AdalnIdeal.Mod

end
-- ==== Proof.AdalnClaim.lean ====
/- The modulation call: the kernel and the reference compute the same arrays over the exact numbers. -/
module

public import proofs.«01_k».proof.Proof.Gen.AdalnIdeal.Value
public import proofs.«01_k».proof.Proof.Gen.AdalnRefIdeal.Run
public import proofs.«01_k».proof.Proof.AdalnValue
public import proofs.«01_k».proof.Proof.FfnClaim
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdalnRefIdeal.Mod

open Cert.AdalnRefIdeal Cert.AdalnRefIdeal.Gen
open Cert.AdalnIdeal.Mod (modded modAt silu packed reordered)

/-- The reference's modulation vectors. -/
def wholeMod (a0 : FVec Ideal S8x2048 .f32) (a1 : FVec Ideal S1x2048x12288 .f32) (a2 : FVec Ideal S1x12288 .f32)
    (o : FVec Ideal S_ .f32) : FVec Ideal S8x12288 .f32 :=
  addf (Host.dotGeneral dot_S8x2048_S2048x12288_S8x12288_1_0_0_1_n_n none (mulf a0 (Host.divf (broadcastInDim S8x2048 ![] bcast_S_S8x2048 o) (addf (broadcastInDim S8x2048 ![] bcast_S_S8x2048 o) (Host.exp (Host.negf a0))))) (shapeCast _ a1 shapeCasts_S1x2048x12288_S2048x12288)) (broadcastInDim S8x12288 ![0, 1] bcast_S1x12288_S8x12288_0_1 (broadcastInDim S1x12288 ![1] bcast_S12288_S1x12288_1 (shapeCast _ a2 shapeCasts_S1x12288_S12288)))

/-- The weight's rows as columns. -/
def turned (a3 : FVec Ideal S1x2048x5128 .f32) : FVec Ideal S5128x2048 .f32 :=
  transpose S5128x2048 [1, 0] (shapeCast _ a3 shapeCasts_S1x2048x5128_S2048x5128) transposes_S2048x5128_S5128x2048_1_0

/-- The reference's reordering. -/
def wholeW (v : FVec Ideal S5128x2048 .f32) (z : FVec Ideal S_ .f32) : FVec Ideal S5248x2048 .bf16 :=
  truncf .bf16 (concatenate S5248x2048 0 [⟨S1024x2048, extractStridedSlice S1024x2048 ![4104, 0] v slices_S5128x2048_S1024x2048_4104_0⟩, ⟨S1024x2048, extractStridedSlice S1024x2048 ![3080, 0] v slices_S5128x2048_S1024x2048_3080_0⟩, ⟨S3072x2048, extractStridedSlice S3072x2048 ![0, 0] v slices_S5128x2048_S3072x2048_0_0⟩, ⟨S8x2048, extractStridedSlice S8x2048 ![3072, 0] v slices_S5128x2048_S8x2048_3072_0⟩, ⟨S120x2048, broadcastInDim S120x2048 ![] bcast_S_S120x2048 z⟩] concatenates_S1024x2048_S1024x2048_S3072x2048_S8x2048_S120x2048_S5248x2048_d0) bitsLt_bf16_f32

theorem wholeMod_at (a0 : FVec Ideal S8x2048 .f32) (a1 : FVec Ideal S1x2048x12288 .f32) (a2 : FVec Ideal S1x12288 .f32)
    (o : FVec Ideal S_ .f32) (s : Fin 8) (n : Fin 12288) : wholeMod a0 a1 a2 o (ix2 s n)
      = ∑ e : Fin 2048, a0 (ix2 s e) * Ideal.div (o ix0) (o ix0 + Ideal.exp (-a0 (ix2 s e))) * a1 (ix3 0 e n) + a2 (ix2 0 n) := by
  pointwise [wholeMod]

theorem turned_at (a3 : FVec Ideal S1x2048x5128 .f32) (k : Fin 5128) (n : Fin 2048) : turned a3 (ix2 k n) = a3 (ix3 0 n k) := by
  pointwise [turned]

/-- The reference's modulation vectors are the kernel's. -/
theorem wholeMod_eq (a0 : FVec Ideal S8x2048 .f32) (a1 : FVec Ideal S1x2048x12288 .f32) (a2 : FVec Ideal S1x12288 .f32) :
    wholeMod a0 a1 a2 (constant S_ .f32 0x3F800000#32) = modded a0 a1 a2 := by
  funext j
  idx_vars j
  rw [wholeMod_at, Cert.FfnRefIdeal.Norm.one_at]
  rfl

/-- The reference's reordered weight is the kernel's. -/
theorem wholeW_eq (a3 : FVec Ideal S1x2048x5128 .f32) :
    wholeW (turned a3) (constant S_ .f32 0x00000000#32) = reordered a3 := by
  funext j
  idx_vars j
  generalize hv : turned a3 = v
  generalize hz : constant (F := Ideal) S_ .f32 0x00000000#32 = z
  have ez : z ix0 = 0 := by rw [← hz]; exact Cert.FfnRefIdeal.Norm.zero_at
  show _ = packed (fun k => a3 (ix3 0 j1 k)) j0
  have e : (fun k => a3 (ix3 0 j1 k)) = fun k => v (ix2 k j1) := funext fun k => by rw [← hv, turned_at]
  rw [e]
  unfold packed
  pointwise [wholeW]
  have at_eq : ∀ {a b : ℕ} (ha : a < 5128) (hb : b < 5128), a = b → v (ix2 ⟨a, ha⟩ j1) = v (ix2 ⟨b, hb⟩ j1) := fun _ _ h =>
    congrArg (fun i => v (ix2 i j1)) (Fin.ext h)
  by_cases h1 : j0.val < 1024
  · rw [dif_pos h1, dif_pos h1]
  rw [dif_neg h1, dif_neg h1]
  by_cases h2 : j0.val < 2048
  · rw [dif_pos (by omega), dif_pos h2]
    exact at_eq _ _ (by omega)
  rw [dif_neg (by omega), dif_neg h2]
  by_cases h3 : j0.val < 5120
  · rw [dif_pos (by omega), dif_pos (by omega)]
    exact at_eq _ _ (by omega)
  rw [dif_neg (by omega)]
  by_cases h4 : j0.val < 5128
  · rw [dif_pos (by omega), dif_pos h4]
    exact at_eq _ _ (by omega)
  · rw [dif_neg (by omega), dif_neg h4, ez]

end Cert.AdalnRefIdeal.Mod

namespace Cert.AdalnIdeal.Mod

open Cert.AdalnIdeal Cert.AdalnIdeal.Gen

/-- From agreeing arguments the kernel and the reference leave equal arrays. -/
theorem algebraic : Cert.algebraic_AdalnIdeal_AdalnRefIdeal := by
  pair_intro
  · run_from Cert.AdalnIdeal.Value.run_blocks m g
  · run_from Cert.AdalnRefIdeal.Value.run m' g'
    · exact (Cert.AdalnRefIdeal.Mod.wholeMod_eq _ _ _).trans (final_mod m c).symm
    · refine Eq.trans ?_ ((final_w m c).trans (Cert.AdalnRefIdeal.Mod.wholeW_eq _).symm).symm
      rw [← (hagree c).2.2.2]
      rfl

end Cert.AdalnIdeal.Mod

end
-- ==== Proof.lean ====
/- The claims of this certificate, put together: the frames come from the generated modules, a kernel and its
   idealized form are the same program, and each value claim is the last theorem of its own module. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Fcumsum
public import proofs.«01_k».proof.Proof.Gen.Fcumsum.Skeleton
public import proofs.«01_k».proof.Proof.Gen.Fcumsum.Launch
public import proofs.«01_k».proof.Proof.Gen.Fcumsum.Points
public import proofs.«01_k».proof.Proof.Gen.Fcumsum.Frame
public import proofs.«01_k».proof.Proof.Gen.FcumsumIdeal
public import proofs.«01_k».proof.Proof.Gen.FcumsumIdeal.Skeleton
public import proofs.«01_k».proof.Proof.Gen.FcumsumIdeal.Launch
public import proofs.«01_k».proof.Proof.Gen.FcumsumIdeal.Points
public import proofs.«01_k».proof.Proof.Gen.FcumsumIdeal.Frame
public import proofs.«01_k».proof.Proof.Gen.FcumsumRefIdeal
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnRefIdeal
public import proofs.«01_k».proof.Proof.Gen.AttnIdeal.Value
public import proofs.«01_k».proof.Proof.Gen.AttnRefIdeal.Run
public import proofs.«01_k».proof.Proof.Gen.FfnIdeal.Value
public import proofs.«01_k».proof.Proof.Gen.FfnRefIdeal.Run
public import proofs.«01_k».proof.Proof.Gen.InprojIdeal.Value
public import proofs.«01_k».proof.Proof.Gen.InprojRefIdeal.Run
public import proofs.«01_k».proof.Proof.Gen.OutprojIdeal.Value
public import proofs.«01_k».proof.Proof.Gen.OutprojRefIdeal.Run
public import proofs.«01_k».proof.Proof.Gen.FcumsumIdeal.Value
public import proofs.«01_k».proof.Proof.Gen.FcumsumRefIdeal.Run
public import proofs.«01_k».proof.Proof.Gen.AdalnIdeal.Value
public import proofs.«01_k».proof.Proof.Gen.AdalnRefIdeal.Run
public import Idealize.ShloMosaic.Adequacy
public import Idealize.ShloMosaic.Init
public import proofs.«01_k».proof.Proof.Gen.Pre_logits_finite
public import proofs.«01_k».proof.Proof.Gen.Pre_ffn_finite
public import proofs.«01_k».proof.Proof.AttnClaim
public import proofs.«01_k».proof.Proof.FfnClaim
public import proofs.«01_k».proof.Proof.InprojClaim
public import proofs.«01_k».proof.Proof.OutprojClaim
public import proofs.«01_k».proof.Proof.FcumsumClaim
public import proofs.«01_k».proof.Proof.AdalnClaim

@[expose] public section

noncomputable section

namespace Cert.Proof

open Idealize.ShloMosaic Idealize.SL.Sem Cert.Attn

theorem claim : Cert.Claim :=
  ⟨Cert.Attn.Gen.facts,
   Cert.AttnIdeal.Gen.facts,
   Cert.AttnRefIdeal.Gen.facts,
   Cert.Ffn.Gen.facts,
   Cert.FfnIdeal.Gen.facts,
   Cert.FfnRefIdeal.Gen.facts,
   Cert.Inproj.Gen.facts,
   Cert.InprojIdeal.Gen.facts,
   Cert.InprojRefIdeal.Gen.facts,
   Cert.Outproj.Gen.facts,
   Cert.OutprojIdeal.Gen.facts,
   Cert.OutprojRefIdeal.Gen.facts,
   Cert.Fcumsum.Gen.facts,
   Cert.FcumsumIdeal.Gen.facts,
   Cert.FcumsumRefIdeal.Gen.facts,
   Cert.Adaln.Gen.facts,
   Cert.AdalnIdeal.Gen.facts,
   Cert.AdalnRefIdeal.Gen.facts,
   Cert.Pre_logits_finite.Gen.facts,
   Cert.Pre_ffn_finite.Gen.facts,
   fun m ρ _ => Cert.Attn.Gen.frame m ρ,
   fun m ρ _ => Cert.AttnIdeal.Gen.frame m ρ,
   fun m ρ _ => Cert.AttnIdeal.Gen.frame m ρ,
   fun m ρ _ => (θ_run Cert.AttnRefIdeal.defs _ _).mono
     (fun r h => ⟨fun c => (h c).2.2.2.2, sem_eq_zero_of_no_sems (by decide) r.2⟩) (Cert.AttnRefIdeal.Value.run m ρ),
   fun m ρ _ => (θ_run Cert.AttnRefIdeal.defs _ _).mono
     (fun r h => ⟨fun c => (h c).2.2.2.2, sem_eq_zero_of_no_sems (by decide) r.2⟩) (Cert.AttnRefIdeal.Value.run m ρ),
   fun m ρ _ => Cert.Ffn.Gen.frame m ρ,
   fun m ρ _ => Cert.FfnIdeal.Gen.frame m ρ,
   fun m ρ _ => Cert.FfnIdeal.Gen.frame m ρ,
   fun m ρ _ => (θ_run Cert.FfnRefIdeal.defs _ _).mono
     (fun r h => ⟨fun c => (h c).2, sem_eq_zero_of_no_sems (by decide) r.2⟩) (Cert.FfnRefIdeal.Value.run m ρ),
   fun m ρ _ => (θ_run Cert.FfnRefIdeal.defs _ _).mono
     (fun r h => ⟨fun c => (h c).2, sem_eq_zero_of_no_sems (by decide) r.2⟩) (Cert.FfnRefIdeal.Value.run m ρ),
   fun m ρ _ => Cert.Inproj.Gen.frame m ρ,
   fun m ρ _ => Cert.InprojIdeal.Gen.frame m ρ,
   fun m ρ _ => (θ_run Cert.InprojRefIdeal.defs _ _).mono
     (fun r h => ⟨fun c => (h c).2.2.2, sem_eq_zero_of_no_sems (by decide) r.2⟩) (Cert.InprojRefIdeal.Value.run m ρ),
   fun m ρ _ => Cert.Outproj.Gen.frame m ρ,
   fun m ρ _ => Cert.OutprojIdeal.Gen.frame m ρ,
   fun m ρ _ => (θ_run Cert.OutprojRefIdeal.defs _ _).mono
     (fun r h => ⟨fun c => (h c).2, sem_eq_zero_of_no_sems (by decide) r.2⟩) (Cert.OutprojRefIdeal.Value.run m ρ),
   fun m ρ _ => Cert.Fcumsum.Gen.frame m ρ,
   fun m ρ _ => Cert.FcumsumIdeal.Gen.frame m ρ,
   fun m ρ _ => (θ_run Cert.FcumsumRefIdeal.defs _ _).mono
     (fun r h => ⟨fun c => (h c).2, sem_eq_zero_of_no_sems (by decide) r.2⟩) (Cert.FcumsumRefIdeal.Value.run m ρ),
   fun m ρ _ => Cert.Adaln.Gen.frame m ρ,
   fun m ρ _ => Cert.AdalnIdeal.Gen.frame m ρ,
   fun m ρ _ => (θ_run Cert.AdalnRefIdeal.defs _ _).mono
     (fun r h => ⟨fun c => (h c).2.2, sem_eq_zero_of_no_sems (by decide) r.2⟩) (Cert.AdalnRefIdeal.Value.run m ρ),
   trivial,
   Cert.AttnIdeal.Soft.algebraic,
   trivial,
   trivial,
   trivial,
   trivial,
   trivial,
   Cert.FfnIdeal.Norm.algebraic,
   Cert.InprojIdeal.Qkv.algebraic,
   Cert.OutprojIdeal.Proj.algebraic,
   Cert.FcumsumIdeal.Scan.algebraic,
   Cert.AdalnIdeal.Mod.algebraic⟩

end Cert.Proof

end
